-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x3584 : Shape := ⟨3, ![3, 1024, 3584]⟩
abbrev S3x1024x28 : Shape := ⟨3, ![3, 1024, 28]⟩
abbrev S3584x3584 : Shape := ⟨2, ![3584, 3584]⟩
abbrev S28x28 : Shape := ⟨2, ![28, 28]⟩
abbrev S3072x3584 : Shape := ⟨2, ![3072, 3584]⟩
abbrev S3072x28 : Shape := ⟨2, ![3072, 28]⟩
abbrev S3072x1792 : Shape := ⟨2, ![3072, 1792]⟩
abbrev S3072x14 : Shape := ⟨2, ![3072, 14]⟩
abbrev S512x3584 : Shape := ⟨2, ![512, 3584]⟩
abbrev S512x28 : Shape := ⟨2, ![512, 28]⟩
abbrev S3584x512 : Shape := ⟨2, ![3584, 512]⟩
abbrev S512x256 : Shape := ⟨2, ![512, 256]⟩
abbrev S512x14 : Shape := ⟨2, ![512, 14]⟩
abbrev S512x1 : Shape := ⟨2, ![512, 1]⟩
abbrev S512x128 : Shape := ⟨2, ![512, 128]⟩
abbrev S1x1 : Shape := ⟨2, ![1, 1]⟩
abbrev S128x128 : Shape := ⟨2, ![128, 128]⟩
abbrev S512x512 : Shape := ⟨2, ![512, 512]⟩
abbrev S512 : Shape := ⟨1, ![512]⟩

abbrev nBuf : Space → Nat
  | .hbm => 8
  | .vmem => 12
  | .smem => 1
  | _ => 0

abbrev bufTy : (tb : Table) → Fin (tcTables nBuf tb) → BufTy
  | .hbm, ⟨0, _⟩ => ⟨S3x1024x3584, .fp8e4m3⟩
  | .hbm, ⟨1, _⟩ => ⟨S3x1024x28, .f32⟩
  | .hbm, ⟨2, _⟩ => ⟨S3584x3584, .fp8e4m3⟩
  | .hbm, ⟨3, _⟩ => ⟨S28x28, .f32⟩
  | .hbm, ⟨4, _⟩ => ⟨S3072x3584, .fp8e4m3⟩
  | .hbm, ⟨5, _⟩ => ⟨S3072x28, .f32⟩
  | .hbm, ⟨6, _⟩ => ⟨S3072x1792, .fp8e4m3⟩
  | .hbm, ⟨7, _⟩ => ⟨S3072x14, .f32⟩
  | .local _ .vmem, ⟨0, _⟩ => ⟨S512x3584, .fp8e4m3⟩
  | .local _ .vmem, ⟨1, _⟩ => ⟨S512x3584, .fp8e4m3⟩
  | .local _ .vmem, ⟨2, _⟩ => ⟨S512x28, .f32⟩
  | .local _ .vmem, ⟨3, _⟩ => ⟨S512x28, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S512x256, .fp8e4m3⟩
  | .local _ .vmem, ⟨7, _⟩ => ⟨S512x256, .fp8e4m3⟩
  | .local _ .vmem, ⟨8, _⟩ => ⟨S512x14, .f32⟩
  | .local _ .vmem, ⟨9, _⟩ => ⟨S512x14, .f32⟩
  | .local _ .vmem, ⟨10, _⟩ => ⟨S512x3584, .bf16⟩
  | .local _ .vmem, ⟨11, _⟩ => ⟨S3584x512, .bf16⟩
  | .local _ .smem, ⟨0, _⟩ => ⟨S28x28, .f32⟩
  | _, _ => ⟨S3x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 7], ![false, false]⟩

def k0_off1 (i : grid0.Coords) (c0_i32_1 : BitVec 32) : Fin 2 → Nat :=
  let c0 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  ![0, v5.toNat]
def k0_off2 (i : grid0.Coords) (c0_i32_22 : BitVec 32) : Fin 2 → Nat :=
  let c1 : Index := 1#32
  let arg1 : BitVec 32 := BitVec.ofNat 32 (i 1).val
  let c4_i32_21 : BitVec 32 := 4#32
  let v51 : BitVec 32 := Scalar.muli arg1 c4_i32_21
  let v52 : BitVec 32 := Scalar.addi v51 c0_i32_22
  let v53 : Index := Scalar.indexCast v52
  ![1, v53.toNat]
def k0_off3 (i : grid0.Coords) (c0_i32_49 : BitVec 32) : Fin 2 → Nat :=
  let c2 : Index := 2#32
  let arg1 : BitVec 32 := BitVec.ofNat 32 (i 1).val
  let c4_i32_48 : BitVec 32 := 4#32
  let v99 : BitVec 32 := Scalar.muli arg1 c4_i32_48
  let v100 : BitVec 32 := Scalar.addi v99 c0_i32_49
  let v101 : Index := Scalar.indexCast v100
  ![2, v101.toNat]
def k0_off4 (i : grid0.Coords) (c0_i32_76 : BitVec 32) : Fin 2 → Nat :=
  let c3 : Index := 3#32
  let arg1 : BitVec 32 := BitVec.ofNat 32 (i 1).val
  let c4_i32_75 : BitVec 32 := 4#32
  let v147 : BitVec 32 := Scalar.muli arg1 c4_i32_75
  let v148 : BitVec 32 := Scalar.addi v147 c0_i32_76
  let v149 : Index := Scalar.indexCast v148
  ![3, v149.toNat]
def k0_off5 (i : grid0.Coords) (c0_i32_103 : BitVec 32) : Fin 2 → Nat :=
  let c4 : Index := 4#32
  let arg1 : BitVec 32 := BitVec.ofNat 32 (i 1).val
  let c4_i32_102 : BitVec 32 := 4#32
  let v195 : BitVec 32 := Scalar.muli arg1 c4_i32_102
  let v196 : BitVec 32 := Scalar.addi v195 c0_i32_103
  let v197 : Index := Scalar.indexCast v196
  ![4, v197.toNat]
def k0_off6 (i : grid0.Coords) (c0_i32_129 : BitVec 32) : Fin 2 → Nat :=
  let c5 : Index := 5#32
  let arg1 : BitVec 32 := BitVec.ofNat 32 (i 1).val
  let c4_i32_128 : BitVec 32 := 4#32
  let v243 : BitVec 32 := Scalar.muli arg1 c4_i32_128
  let v244 : BitVec 32 := Scalar.addi v243 c0_i32_129
  let v245 : Index := Scalar.indexCast v244
  ![5, v245.toNat]
def k0_off7 (i : grid0.Coords) (c0_i32_155 : BitVec 32) : Fin 2 → Nat :=
  let c6 : Index := 6#32
  let arg1 : BitVec 32 := BitVec.ofNat 32 (i 1).val
  let c4_i32_154 : BitVec 32 := 4#32
  let v291 : BitVec 32 := Scalar.muli arg1 c4_i32_154
  let v292 : BitVec 32 := Scalar.addi v291 c0_i32_155
  let v293 : Index := Scalar.indexCast v292
  ![6, v293.toNat]
def k0_off8 (i : grid0.Coords) (c0_i32_181 : BitVec 32) : Fin 2 → Nat :=
  let c7 : Index := 7#32
  let arg1 : BitVec 32 := BitVec.ofNat 32 (i 1).val
  let c4_i32_180 : BitVec 32 := 4#32
  let v339 : BitVec 32 := Scalar.muli arg1 c4_i32_180
  let v340 : BitVec 32 := Scalar.addi v339 c0_i32_181
  let v341 : Index := Scalar.indexCast v340
  ![7, v341.toNat]
def k0_off9 (i : grid0.Coords) (c0_i32_207 : BitVec 32) : Fin 2 → Nat :=
  let c8 : Index := 8#32
  let arg1 : BitVec 32 := BitVec.ofNat 32 (i 1).val
  let c4_i32_206 : BitVec 32 := 4#32
  let v387 : BitVec 32 := Scalar.muli arg1 c4_i32_206
  let v388 : BitVec 32 := Scalar.addi v387 c0_i32_207
  let v389 : Index := Scalar.indexCast v388
  ![8, v389.toNat]
def k0_off10 (i : grid0.Coords) (c0_i32_233 : BitVec 32) : Fin 2 → Nat :=
  let c9 : Index := 9#32
  let arg1 : BitVec 32 := BitVec.ofNat 32 (i 1).val
  let c4_i32_232 : BitVec 32 := 4#32
  let v435 : BitVec 32 := Scalar.muli arg1 c4_i32_232
  let v436 : BitVec 32 := Scalar.addi v435 c0_i32_233
  let v437 : Index := Scalar.indexCast v436
  ![9, v437.toNat]
def k0_off11 (i : grid0.Coords) (c0_i32_259 : BitVec 32) : Fin 2 → Nat :=
  let c10 : Index := 10#32
  let arg1 : BitVec 32 := BitVec.ofNat 32 (i 1).val
  let c4_i32_258 : BitVec 32 := 4#32
  let v483 : BitVec 32 := Scalar.muli arg1 c4_i32_258
  let v484 : BitVec 32 := Scalar.addi v483 c0_i32_259
  let v485 : Index := Scalar.indexCast v484
  ![10, v485.toNat]
def k0_off12 (i : grid0.Coords) (c0_i32_285 : BitVec 32) : Fin 2 → Nat :=
  let c11 : Index := 11#32
  let arg1 : BitVec 32 := BitVec.ofNat 32 (i 1).val
  let c4_i32_284 : BitVec 32 := 4#32
  let v531 : BitVec 32 := Scalar.muli arg1 c4_i32_284
  let v532 : BitVec 32 := Scalar.addi v531 c0_i32_285
  let v533 : Index := Scalar.indexCast v532
  ![11, v533.toNat]
def k0_off13 (i : grid0.Coords) (c0_i32_311 : BitVec 32) : Fin 2 → Nat :=
  let c12 : Index := 12#32
  let arg1 : BitVec 32 := BitVec.ofNat 32 (i 1).val
  let c4_i32_310 : BitVec 32 := 4#32
  let v579 : BitVec 32 := Scalar.muli arg1 c4_i32_310
  let v580 : BitVec 32 := Scalar.addi v579 c0_i32_311
  let v581 : Index := Scalar.indexCast v580
  ![12, v581.toNat]
def k0_off14 (i : grid0.Coords) (c0_i32_337 : BitVec 32) : Fin 2 → Nat :=
  let c13 : Index := 13#32
  let arg1 : BitVec 32 := BitVec.ofNat 32 (i 1).val
  let c4_i32_336 : BitVec 32 := 4#32
  let v627 : BitVec 32 := Scalar.muli arg1 c4_i32_336
  let v628 : BitVec 32 := Scalar.addi v627 c0_i32_337
  let v629 : Index := Scalar.indexCast v628
  ![13, v629.toNat]
def k0_off15 (i : grid0.Coords) (c0_i32_363 : BitVec 32) : Fin 2 → Nat :=
  let c14 : Index := 14#32
  let arg1 : BitVec 32 := BitVec.ofNat 32 (i 1).val
  let c4_i32_362 : BitVec 32 := 4#32
  let v675 : BitVec 32 := Scalar.muli arg1 c4_i32_362
  let v676 : BitVec 32 := Scalar.addi v675 c0_i32_363
  let v677 : Index := Scalar.indexCast v676
  ![14, v677.toNat]
def k0_off16 (i : grid0.Coords) (c0_i32_389 : BitVec 32) : Fin 2 → Nat :=
  let c15 : Index := 15#32
  let arg1 : BitVec 32 := BitVec.ofNat 32 (i 1).val
  let c4_i32_388 : BitVec 32 := 4#32
  let v723 : BitVec 32 := Scalar.muli arg1 c4_i32_388
  let v724 : BitVec 32 := Scalar.addi v723 c0_i32_389
  let v725 : Index := Scalar.indexCast v724
  ![15, v725.toNat]
def k0_off17 (i : grid0.Coords) (c0_i32_415 : BitVec 32) : Fin 2 → Nat :=
  let c16 : Index := 16#32
  let arg1 : BitVec 32 := BitVec.ofNat 32 (i 1).val
  let c4_i32_414 : BitVec 32 := 4#32
  let v771 : BitVec 32 := Scalar.muli arg1 c4_i32_414
  let v772 : BitVec 32 := Scalar.addi v771 c0_i32_415
  let v773 : Index := Scalar.indexCast v772
  ![16, v773.toNat]
def k0_off18 (i : grid0.Coords) (c0_i32_441 : BitVec 32) : Fin 2 → Nat :=
  let c17 : Index := 17#32
  let arg1 : BitVec 32 := BitVec.ofNat 32 (i 1).val
  let c4_i32_440 : BitVec 32 := 4#32
  let v819 : BitVec 32 := Scalar.muli arg1 c4_i32_440
  let v820 : BitVec 32 := Scalar.addi v819 c0_i32_441
  let v821 : Index := Scalar.indexCast v820
  ![17, v821.toNat]
def k0_off19 (i : grid0.Coords) (c0_i32_467 : BitVec 32) : Fin 2 → Nat :=
  let c18 : Index := 18#32
  let arg1 : BitVec 32 := BitVec.ofNat 32 (i 1).val
  let c4_i32_466 : BitVec 32 := 4#32
  let v867 : BitVec 32 := Scalar.muli arg1 c4_i32_466
  let v868 : BitVec 32 := Scalar.addi v867 c0_i32_467
  let v869 : Index := Scalar.indexCast v868
  ![18, v869.toNat]
def k0_off20 (i : grid0.Coords) (c0_i32_493 : BitVec 32) : Fin 2 → Nat :=
  let c19 : Index := 19#32
  let arg1 : BitVec 32 := BitVec.ofNat 32 (i 1).val
  let c4_i32_492 : BitVec 32 := 4#32
  let v915 : BitVec 32 := Scalar.muli arg1 c4_i32_492
  let v916 : BitVec 32 := Scalar.addi v915 c0_i32_493
  let v917 : Index := Scalar.indexCast v916
  ![19, v917.toNat]
def k0_off21 (i : grid0.Coords) (c0_i32_519 : BitVec 32) : Fin 2 → Nat :=
  let c20 : Index := 20#32
  let arg1 : BitVec 32 := BitVec.ofNat 32 (i 1).val
  let c4_i32_518 : BitVec 32 := 4#32
  let v963 : BitVec 32 := Scalar.muli arg1 c4_i32_518
  let v964 : BitVec 32 := Scalar.addi v963 c0_i32_519
  let v965 : Index := Scalar.indexCast v964
  ![20, v965.toNat]
def k0_off22 (i : grid0.Coords) (c0_i32_545 : BitVec 32) : Fin 2 → Nat :=
  let c21 : Index := 21#32
  let arg1 : BitVec 32 := BitVec.ofNat 32 (i 1).val
  let c4_i32_544 : BitVec 32 := 4#32
  let v1011 : BitVec 32 := Scalar.muli arg1 c4_i32_544
  let v1012 : BitVec 32 := Scalar.addi v1011 c0_i32_545
  let v1013 : Index := Scalar.indexCast v1012
  ![21, v1013.toNat]
def k0_off23 (i : grid0.Coords) (c0_i32_571 : BitVec 32) : Fin 2 → Nat :=
  let c22 : Index := 22#32
  let arg1 : BitVec 32 := BitVec.ofNat 32 (i 1).val
  let c4_i32_570 : BitVec 32 := 4#32
  let v1059 : BitVec 32 := Scalar.muli arg1 c4_i32_570
  let v1060 : BitVec 32 := Scalar.addi v1059 c0_i32_571
  let v1061 : Index := Scalar.indexCast v1060
  ![22, v1061.toNat]
def k0_off24 (i : grid0.Coords) (c0_i32_597 : BitVec 32) : Fin 2 → Nat :=
  let c23 : Index := 23#32
  let arg1 : BitVec 32 := BitVec.ofNat 32 (i 1).val
  let c4_i32_596 : BitVec 32 := 4#32
  let v1107 : BitVec 32 := Scalar.muli arg1 c4_i32_596
  let v1108 : BitVec 32 := Scalar.addi v1107 c0_i32_597
  let v1109 : Index := Scalar.indexCast v1108
  ![23, v1109.toNat]
def k0_off25 (i : grid0.Coords) (c0_i32_623 : BitVec 32) : Fin 2 → Nat :=
  let c24 : Index := 24#32
  let arg1 : BitVec 32 := BitVec.ofNat 32 (i 1).val
  let c4_i32_622 : BitVec 32 := 4#32
  let v1155 : BitVec 32 := Scalar.muli arg1 c4_i32_622
  let v1156 : BitVec 32 := Scalar.addi v1155 c0_i32_623
  let v1157 : Index := Scalar.indexCast v1156
  ![24, v1157.toNat]
def k0_off26 (i : grid0.Coords) (c0_i32_649 : BitVec 32) : Fin 2 → Nat :=
  let c25 : Index := 25#32
  let arg1 : BitVec 32 := BitVec.ofNat 32 (i 1).val
  let c4_i32_648 : BitVec 32 := 4#32
  let v1203 : BitVec 32 := Scalar.muli arg1 c4_i32_648
  let v1204 : BitVec 32 := Scalar.addi v1203 c0_i32_649
  let v1205 : Index := Scalar.indexCast v1204
  ![25, v1205.toNat]
def k0_off27 (i : grid0.Coords) (c0_i32_675 : BitVec 32) : Fin 2 → Nat :=
  let c26 : Index := 26#32
  let arg1 : BitVec 32 := BitVec.ofNat 32 (i 1).val
  let c4_i32_674 : BitVec 32 := 4#32
  let v1251 : BitVec 32 := Scalar.muli arg1 c4_i32_674
  let v1252 : BitVec 32 := Scalar.addi v1251 c0_i32_675
  let v1253 : Index := Scalar.indexCast v1252
  ![26, v1253.toNat]
def k0_off28 (i : grid0.Coords) (c0_i32_701 : BitVec 32) : Fin 2 → Nat :=
  let c27 : Index := 27#32
  let arg1 : BitVec 32 := BitVec.ofNat 32 (i 1).val
  let c4_i32_700 : BitVec 32 := 4#32
  let v1299 : BitVec 32 := Scalar.muli arg1 c4_i32_700
  let v1300 : BitVec 32 := Scalar.addi v1299 c0_i32_701
  let v1301 : Index := Scalar.indexCast v1300
  ![27, v1301.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S28x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x14 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S3x1024x3584 : Shape := ⟨3, ![3, 1024, 3584]⟩
abbrev S3x1024x28 : Shape := ⟨3, ![3, 1024, 28]⟩
abbrev S3584x3584 : Shape := ⟨2, ![3584, 3584]⟩
abbrev S28x28 : Shape := ⟨2, ![28, 28]⟩
abbrev S3072x3584 : Shape := ⟨2, ![3072, 3584]⟩
abbrev S3072x28 : Shape := ⟨2, ![3072, 28]⟩
abbrev S3072x1792 : Shape := ⟨2, ![3072, 1792]⟩
abbrev S3072x14 : Shape := ⟨2, ![3072, 14]⟩
abbrev S3072x28x128 : Shape := ⟨3, ![3072, 28, 128]⟩
abbrev S3072x28x1 : Shape := ⟨3, ![3072, 28, 1]⟩
abbrev S28x128x28x128 : Shape := ⟨4, ![28, 128, 28, 128]⟩
abbrev S28x1x28x1 : Shape := ⟨4, ![28, 1, 28, 1]⟩
abbrev S3072x14x2x128 : Shape := ⟨4, ![3072, 14, 2, 128]⟩
abbrev S3072x14x1x128 : Shape := ⟨4, ![3072, 14, 1, 128]⟩
abbrev S3072x14x128 : Shape := ⟨3, ![3072, 14, 128]⟩
abbrev S3072x14x1 : Shape := ⟨3, ![3072, 14, 1]⟩

abbrev nBuf : Space → Nat
  | .hbm => 8
  | .vmem => 6
  | .smem => 0
  | _ => 0

abbrev bufTy : (tb : Table) → Fin (tcTables nBuf tb) → BufTy
  | .hbm, ⟨0, _⟩ => ⟨S3x1024x3584, .fp8e4m3⟩
  | .hbm, ⟨1, _⟩ => ⟨S3x1024x28, .f32⟩
  | .hbm, ⟨2, _⟩ => ⟨S3584x3584, .fp8e4m3⟩
  | .hbm, ⟨3, _⟩ => ⟨S28x28, .f32⟩
  | .hbm, ⟨4, _⟩ => ⟨S3072x3584, .fp8e4m3⟩
  | .hbm, ⟨5, _⟩ => ⟨S3072x28, .f32⟩
  | .hbm, ⟨6, _⟩ => ⟨S3072x1792, .fp8e4m3⟩
  | .hbm, ⟨7, _⟩ => ⟨S3072x14, .f32⟩
  | .local _ .vmem, ⟨0, _⟩ => ⟨S3072x3584, .fp8e4m3⟩
  | .local _ .vmem, ⟨1, _⟩ => ⟨S3072x28, .f32⟩
  | .local _ .vmem, ⟨2, _⟩ => ⟨S3584x3584, .fp8e4m3⟩
  | .local _ .vmem, ⟨3, _⟩ => ⟨S28x28, .f32⟩
  | .local _ .vmem, ⟨4, _⟩ => ⟨S3072x1792, .fp8e4m3⟩
  | .local _ .vmem, ⟨5, _⟩ => ⟨S3072x14, .f32⟩
  | _, _ => ⟨S3x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x14 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.FrameRuns.lean ====
/-
  The frame of the kernel on the machine's own floats: its body runs without fault at every grid point, whatever its output
  blocks and its scratch buffers hold; what they end at is not said.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit
public import Idealize.ShloMosaic.Lib.Claim
public import Idealize.ShloMosaic.Lib.Pipeline.DatRel

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 42 := Nat.lt_of_lt_of_eq t.isLt N_0
    have e0 : (grid0.coords t 0).val = t.val / 7 % 6 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-! ## The kernel body on any staging memrefs: the buffers -/

/-- Each window's current staging memref at point `t`, spelled as the pipeline passes it (`bodyAt0`), and its wholeness. -/
abbrev ms0_0 (t : Fin cfg0.N) : Memref sig .tc .vmem S512x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x28 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S28x28 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x14 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x3584 .bf16 := Memref.whole cc0_scratch0
abbrev scM0_1 : Memref sig .tc .vmem S3584x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 4652000 in
/-- The body's run at a grid point of the first column tile. -/
theorem kernelRun0_A (c : Dev nD) (i : grid0.Coords) (arg2 : Memref sig .tc .vmem S512x3584 .fp8e4m3) (harg2 : arg2.IsWhole) (arg3 : Memref sig .tc .vmem S512x28 .f32) (harg3 : arg3.IsWhole) (arg4 : Memref sig .tc .vmem S3584x512 .fp8e4m3) (harg4 : arg4.IsWhole) (arg5 : Memref sig .tc .smem S28x28 .f32) (harg5 : arg5.IsWhole) (arg6 : Memref sig .tc .vmem S512x256 .fp8e4m3) (harg6 : arg6.IsWhole) (arg7 : Memref sig .tc .vmem S512x14 .f32) (harg7 : arg7.IsWhole) (arg8 : Memref sig .tc .vmem S512x3584 .bf16) (harg8 : arg8.IsWhole) (arg9 : Memref sig .tc .vmem S3584x512 .bf16) (harg9 : arg9.IsWhole) (hc0 : cond0_0 i)
    (x0 : Vec F S512x3584 .fp8e4m3) (x1 : Vec F S512x28 .f32) (x2 : Vec F S3584x512 .fp8e4m3) (x3 : Vec F S28x28 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9) K := by
    intro E K
    simp only [cc0_gate_up_swiglu_eq_skeleton]; unfold cc0_gate_up_swiglu_skel
    simp only [k0_part52_eq_skeleton, k0_part10_eq_skeleton, k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 4652000 in
/-- The body's run at any other grid point. -/
theorem kernelRun0_B (c : Dev nD) (i : grid0.Coords) (arg2 : Memref sig .tc .vmem S512x3584 .fp8e4m3) (harg2 : arg2.IsWhole) (arg3 : Memref sig .tc .vmem S512x28 .f32) (harg3 : arg3.IsWhole) (arg4 : Memref sig .tc .vmem S3584x512 .fp8e4m3) (harg4 : arg4.IsWhole) (arg5 : Memref sig .tc .smem S28x28 .f32) (harg5 : arg5.IsWhole) (arg6 : Memref sig .tc .vmem S512x256 .fp8e4m3) (harg6 : arg6.IsWhole) (arg7 : Memref sig .tc .vmem S512x14 .f32) (harg7 : arg7.IsWhole) (arg8 : Memref sig .tc .vmem S512x3584 .bf16) (harg8 : arg8.IsWhole) (arg9 : Memref sig .tc .vmem S3584x512 .bf16) (harg9 : arg9.IsWhole) (hc0 : ¬cond0_0 i)
    (x0 : Vec F S512x3584 .fp8e4m3) (x1 : Vec F S512x28 .f32) (x2 : Vec F S3584x512 .fp8e4m3) (x3 : Vec F S28x28 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9) K := by
    intro E K
    simp only [cc0_gate_up_swiglu_eq_skeleton]; unfold cc0_gate_up_swiglu_skel
    simp only [k0_part52_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Hand

end
-- ==== Proof.FrameBits.lean ====
/-
  The frame of the kernel on the machine's own floats: it terminates without fault and leaves its arguments unchanged.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.Value
public import proofs.«01_k».proof.Proof.FrameRuns
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit
public import Idealize.ShloMosaic.Lib.Claim
public import Idealize.ShloMosaic.Lib.Pipeline.DatRel

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The two results' windows, held to a predicate. -/
def marked : Fin 6 → Bool := fun w => w.val == 4 || w.val == 5

/-- Nothing is said of the two results. -/
def Rl (c : Dev nD) : (w : Fin cfg0.W) → Fin cfg0.N → ((cfg0.win w).block.Idx → Elt F (cfg0.win w).elt) → Prop := fun _ _ _ => True

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The relational data: the exact data with the two results held to their predicates. -/
abbrev rdat (c : Dev nD) : Pipeline.RDat τ (Elt F) Unit ℕ (UR sig nD τ) ℕ cfg0 c := (dats m 0 c).toRRel marked (Rl c)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, ⌜(rdat m c).Finds 4 t d⌝ ∗ owns (c : Thread nD τ) (ms0_4 t) fullShare d)
    ∗ (∃ d, ⌜(rdat m c).Finds 5 t d⌝ ∗ owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜Rl c 4 t X⌝ ∗ owns (c : Thread nD τ) (ms0_4 t) fullShare X)
    ∗ (∃ X, ⌜Rl c 5 t X⌝ ∗ owns (c : Thread nD τ) (ms0_5 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.castSucc = (Pipeline.ΦA spec0 c : sProp 𝕄) from rfl, show (dats m 0 c).Φ t.succ = (Pipeline.ΦA spec0 c : sProp 𝕄) from rfl,
    show (dats m 0 c).owesAt () t.succ = (dats m 0 c).owesAt () t.castSucc from rfl,
    after0_0, after0_1, after0_2, after0_3, PhiA0_eq]
  by_cases h0 : t.val % 7 = 0
  · iintro ⟨⟨⟨HS0, HS1⟩, Hg⟩, Ho, ⟨%d0, H0⟩, ⟨%d1, H1⟩, ⟨%d2, H2⟩, ⟨%d3, H3⟩, ⟨%d4, -, H4⟩, ⟨%d5, -, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · iexists e4
      isplitr; swap; · iexact H4
      ipureintro; exact trivial
    iexists e5
    isplitr; swap; · iexact H5
    ipureintro; exact trivial
  · iintro ⟨⟨⟨HS0, HS1⟩, Hg⟩, Ho, ⟨%d0, H0⟩, ⟨%d1, H1⟩, ⟨%d2, H2⟩, ⟨%d3, H3⟩, ⟨%d4, -, H4⟩, ⟨%d5, -, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · iexists e4
      isplitr; swap; · iexact H4
      ipureintro; exact trivial
    iexists e5
    isplitr; swap; · iexact H5
    ipureintro; exact trivial

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats m 0 c) (defs₀ (F := F)) Variants.none () Set.univ marked (Rl c) := fun t => by
  rw [bigSep_W0, bigSep_W0, defs₀_row]
  exact triple_restated (sound_body m c t) rfl .rfl fun _ => .rfl

/-! ## The run -/

set_option backward.isDefEq.respectTransparency.types false in
/-- The run, every semaphore counter at zero at every final state. -/
theorem run_main_quiescent : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m)
    (hin := fun c => .rfl) (hout := fun c => .rfl)

theorem run_main : θ_run defs (onTc (τ := τ) (main (F := F))) (s₀ m ρ) (Pipeline.RDat.FramePost (cfgs 0) (fun c => rdat m c) (V m)) :=
  (θ_run defs _ _).mono (fun _ h => h.1) (run_main_quiescent m ρ)

/-- The argument arrays end as they began. -/
theorem unchanged_of (r : PUnit × MemSt nD τ sig (Elt F)) (h : Pipeline.RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((A_eq m c 2).trans (V_main_arg2 m c)),
    (Pipeline.RDat.FramePost.arr_in h c 3 rfl).trans ((A_eq m c 3).trans (V_main_arg3 m c))⟩

/-- The frame: the argument arrays unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => unchanged_of m r h.1 c, h.2⟩) (run_main_quiescent m ρ)

end Cert.Kernel.Hand

end
-- ==== Proof.Runs.lean ====
/-
  What the two runs of the kernel's body share: the condition of its one branch at a grid point, the staging and scratch buffers
  as the pipeline passes them, and the values the body computes, as functions of the blocks it reads.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 42 := Nat.lt_of_lt_of_eq t.isLt N_0
    have e0 : (grid0.coords t 0).val = t.val / 7 % 6 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-! ## The kernel body on any staging memrefs: the buffers -/

/-- Each window's current staging memref at point `t`, spelled as the pipeline passes it (`bodyAt0`), and its wholeness. -/
abbrev ms0_0 (t : Fin cfg0.N) : Memref sig .tc .vmem S512x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x28 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S28x28 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x14 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x3584 .bf16 := Memref.whole cc0_scratch0
abbrev scM0_1 : Memref sig .tc .vmem S3584x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The values -/

/-- The dequantised activations: each code times its group's scale, both in bfloat16. -/
def xbF (x0 : Vec F S512x3584 .fp8e4m3) (x1 : Vec F S512x28 .f32) : Vec F S512x3584 .bf16 := fun y =>
  FloatOps.mulf (FloatOps.extf .bf16 bitsLt_fp8e4m3_bf16 (x0 y))
    (FloatOps.truncf .bf16 bitsLt_bf16_f32 (x1 (ix2 (y 0) ⟨(y 1).val / 128, Nat.div_lt_of_lt_mul (y 1).isLt⟩)))

/-- The dequantised weights of a grid point's column tile: each code times its block's scale, both in bfloat16. -/
def wbF (i : grid0.Coords) (x2 : Vec F S3584x512 .fp8e4m3) (x3 : Vec F S28x28 .f32) : Vec F S3584x512 .bf16 := fun y =>
  FloatOps.mulf (FloatOps.extf .bf16 bitsLt_fp8e4m3_bf16 (x2 y))
    (Scalar.truncf .bf16 bitsLt_bf16_f32 (x3 (ix2 ⟨(y 0).val / 128, Nat.div_lt_of_lt_mul (y 0).isLt⟩
      ⟨4 * (i 1).val + (y 1).val / 128, by have h : (y 1).val < 512 := (y 1).isLt; have h' : (i 1).val < 7 := (i 1).isLt; omega⟩)))

/-! ## The pieces the body stores into its two scratch buffers -/

/-- One block of 128 × 128 weights, as the body stores it, is that block of `wbF`. -/
theorem piece_wb (i : grid0.Coords) (arg4 : Memref sig .tc .vmem S3584x512 .fp8e4m3) (harg4 : arg4.IsWhole) (arg5 : Memref sig .tc .smem S28x28 .f32) (harg5 : arg5.IsWhole)
    (x2 : Vec F S3584x512 .fp8e4m3) (x3 : Vec F S28x28 .f32) (off : Fin 2 → ℕ) (inb : ∀ a, off a + S128x128.size a ≤ S3584x512.size a)
    (soff : Fin 2 → ℕ) (sinb : ∀ a, soff a + S1x1.size a ≤ S28x28.size a)
    (hoff : off 0 % 128 = 0 ∧ off 1 % 128 = 0) (hs : soff = ![off 0 / 128, 4 * (i 1).val + off 1 / 128])
    (hc : S128x128.ShapeCasts S128x128) (h1 : 0 < (Rect.unit (s := S28x28) soff S1x1.size sinb).shape.numel) (x : S128x128.Idx) :
    shapeCast S128x128 (mulf (extf .bf16 (View.readAt (Elt F) arg4.view (Rect.unit (s := S3584x512) off S128x128.size inb).toLoadRect (harg4.unread x2)) bitsLt_fp8e4m3_bf16)
        (broadcast S128x128 (Scalar.truncf .bf16 bitsLt_bf16_f32
          (View.readAt (Elt F) arg5.view (Rect.unit (s := S28x28) soff S1x1.size sinb).toLoadRect (harg5.unread x3) (Shape.Idx.first h1))))) hc x
      = wbF i x2 x3 ((Rect.unit (s := S3584x512) off S128x128.size inb).emb x) := by
  refine (congrFun (shapeCast_self _ hc) x).trans ?_
  rw [View.readAt_eq_ld, View.readAt_eq_ld, harg4.read_unread, harg5.read_unread]
  have hx0 : (x 0).val < 128 := (x 0).isLt
  have hx1 : (x 1).val < 128 := (x 1).isLt
  obtain ⟨e0, e1⟩ := hoff
  have hv : ∀ a, (((Rect.unit (s := S3584x512) off S128x128.size inb).emb x) a : ℕ) = off a + x a := fun a => Rect.idx_unit_val (s := S3584x512) off S128x128.size inb x a
  show FloatOps.mulf (FloatOps.extf .bf16 bitsLt_fp8e4m3_bf16 (View.ld x2 (Rect.unit (s := S3584x512) off S128x128.size inb) x)) (Scalar.truncf .bf16 bitsLt_bf16_f32 (View.ld x3 (Rect.unit (s := S28x28) soff S1x1.size sinb) _)) = _
  unfold wbF
  refine congrArg₂ _ rfl (congrArg _ ?_)
  refine View.ld_unit_apply_of x3 soff S1x1.size sinb _ _ fun a => ?_
  subst hs
  match a with
  | ⟨0, _⟩ =>
    have hv0 := hv 0
    have hz : ((Shape.Idx.first h1 : (Rect.unit (s := S28x28) _ S1x1.size sinb).shape.Idx) 0 : ℕ) < 1 := Fin.isLt _
    show (((Rect.unit (s := S3584x512) off S128x128.size inb).emb x) 0 : ℕ) / 128 = off 0 / 128 + ((Shape.Idx.first h1 : (Rect.unit (s := S28x28) _ S1x1.size sinb).shape.Idx) 0 : ℕ)
    omega
  | ⟨1, _⟩ =>
    have hv1 := hv 1
    have hz : ((Shape.Idx.first h1 : (Rect.unit (s := S28x28) _ S1x1.size sinb).shape.Idx) 1 : ℕ) < 1 := Fin.isLt _
    show 4 * (i 1).val + (((Rect.unit (s := S3584x512) off S128x128.size inb).emb x) 1 : ℕ) / 128 = 4 * (i 1).val + off 1 / 128 + ((Shape.Idx.first h1 : (Rect.unit (s := S28x28) _ S1x1.size sinb).shape.Idx) 1 : ℕ)
    omega

/-- The casts to its own shape that surround a panel's product drop out. -/
theorem panel_casts (A : FVec F S512x128 .fp8e4m3) (B : FVec F S512x1 .f32) (hc hc' : S512x128.ShapeCasts S512x128) (hd hd' : S512x1.ShapeCasts S512x1) :
    shapeCast S512x128 (mulf (extf .bf16 (shapeCast S512x128 A hc') bitsLt_fp8e4m3_bf16)
        (truncf .bf16 (broadcastTo S512x128 (shapeCast S512x1 (shapeCast S512x1 B hd') hd) broadcasts_S512x1_S512x128) bitsLt_bf16_f32)) hc
      = mulf (extf .bf16 A bitsLt_fp8e4m3_bf16) (truncf .bf16 (broadcastTo S512x128 B broadcasts_S512x1_S512x128) bitsLt_bf16_f32) := by
  rw [shapeCast_self, shapeCast_self, shapeCast_self, shapeCast_self]

/-- One panel of 512 × 128 activations, as the body stores it, is that panel of `xbF`. -/
theorem piece_xb (arg2 : Memref sig .tc .vmem S512x3584 .fp8e4m3) (harg2 : arg2.IsWhole) (arg3 : Memref sig .tc .vmem S512x28 .f32) (harg3 : arg3.IsWhole)
    (x0 : Vec F S512x3584 .fp8e4m3) (x1 : Vec F S512x28 .f32) (off : Fin 2 → ℕ) (inb : ∀ a, off a + S512x128.size a ≤ S512x3584.size a)
    (soff : Fin 2 → ℕ) (sinb : ∀ a, soff a + S512x1.size a ≤ S512x28.size a)
    (hoff : off 0 = 0 ∧ off 1 % 128 = 0) (hs : soff 0 = 0 ∧ soff 1 = off 1 / 128)
    (hc hc' : S512x128.ShapeCasts S512x128) (hd hd' : S512x1.ShapeCasts S512x1) (x : S512x128.Idx) :
    shapeCast S512x128 (mulf (extf .bf16 (shapeCast S512x128 (View.readAt (Elt F) arg2.view (Rect.unit (s := S512x3584) off S512x128.size inb).toLoadRect (harg2.unread x0)) hc') bitsLt_fp8e4m3_bf16)
        (truncf .bf16 (broadcastTo S512x128 (shapeCast S512x1 (shapeCast S512x1
          (View.readAt (Elt F) arg3.view (Rect.unit (s := S512x28) soff S512x1.size sinb).toLoadRect (harg3.unread x1)) hd') hd) broadcasts_S512x1_S512x128) bitsLt_bf16_f32)) hc x
      = xbF x0 x1 ((Rect.unit (s := S512x3584) off S512x128.size inb).emb x) := by
  refine (congrFun (panel_casts _ _ hc hc' hd hd') x).trans ?_
  rw [View.readAt_eq_ld, View.readAt_eq_ld, harg2.read_unread, harg3.read_unread]
  have hx0 : (x 0).val < 512 := (x 0).isLt
  have hx1 : (x 1).val < 128 := (x 1).isLt
  obtain ⟨e0, e1⟩ := hoff
  obtain ⟨s0, s1⟩ := hs
  have hv : ∀ a, (((Rect.unit (s := S512x3584) off S512x128.size inb).emb x) a : ℕ) = off a + x a := fun a => Rect.idx_unit_val (s := S512x3584) off S512x128.size inb x a
  show FloatOps.mulf (FloatOps.extf .bf16 bitsLt_fp8e4m3_bf16 (View.ld x0 (Rect.unit (s := S512x3584) off S512x128.size inb) x)) (FloatOps.truncf .bf16 bitsLt_bf16_f32 (broadcastTo S512x128 (View.ld x1 (Rect.unit (s := S512x28) soff S512x1.size sinb)) broadcasts_S512x1_S512x128 x)) = _
  unfold xbF
  refine congrArg₂ _ rfl (congrArg _ ?_)
  refine View.ld_unit_apply_of x1 soff S512x1.size sinb _ _ fun a => ?_
  match a with
  | ⟨0, _⟩ =>
    have hv0 := hv 0
    show (((Rect.unit (s := S512x3584) off S512x128.size inb).emb x) 0 : ℕ) = soff 0 + (x 0).val
    omega
  | ⟨1, _⟩ =>
    have hv1 := hv 1
    show (((Rect.unit (s := S512x3584) off S512x128.size inb).emb x) 1 : ℕ) / 128 = soff 1 + 0
    omega

/-- A list of pieces that are blocks of `G`, one piece longer. -/
theorem pieces_cons {s : Shape} {e : EltTy} {Val : EltTy → Type} {G : s.Idx → Val e} {p : View.Piece Val s e} {L : List (View.Piece Val s e)}
    (h : ∀ x : p.1.shape.Idx, p.2 x = G (p.1.emb x)) (hL : View.PiecesOf G L) : View.PiecesOf G (p :: L) := ⟨h, hL⟩

theorem pieces_nil {s : Shape} {e : EltTy} {Val : EltTy → Type} {G : s.Idx → Val e} : View.PiecesOf (Val := Val) G [] := trivial

/-- A whole buffer read back after stores of blocks of `G` that cover it is `G`. -/
theorem readCov_of_pieces {s : Shape} {e : EltTy} {κ : Kind} {sp : Space} (v : View sig κ sp s e) (G : s.Idx → Elt F e) (L : List (View.Piece (Elt F) s e))
    (off : Fin s.rank → ℕ) (inb : ∀ a, off a + s.size a ≤ s.size a) (h0 : ∀ a, off a = 0)
    (hL : View.PiecesOf G L) (hc : ∀ y, ∃ p ∈ L, y ∈ p.1.set) :
    v.readCov L (Rect.unit off s.size inb).toLoadRect = G := by
  rw [View.readCov_eq_canon']
  funext y
  have hy : (Rect.unit off s.size inb).toLoadRect.idx y = y := by
    funext a; apply Fin.ext
    exact (Rect.idx_unit_val off s.size inb y a).trans (by rw [h0 a, Nat.zero_add])
  rw [hy]
  exact View.canon_apply_of_pieces G L hL.mem y (hc y)

/-! ## What the body computes from the dequantised operands -/

section Post

variable (xb : Vec F S512x3584 .bf16) (wb : Vec F S3584x512 .bf16)

/-- The first group's exponent, short of its last two bits. -/
def e0a : IVec S512x1 32 := k0_pay228 (k0_pay225 xb wb) k0_pay226 (k0_pay227 xb wb) 128#32
/-- The comparison that decides the last bit but two. -/
def e0b : IVec S512x1 1 := k0_pay229 (k0_pay225 xb wb) k0_pay226 (k0_pay227 xb wb) 128#32
/-- The first group's codes. -/
def cod0 : Vec F S512x128 .fp8e4m3 := k0_pay232 (k0_pay224 xb wb) (k0_pay225 xb wb) (e0a xb wb) (e0b xb wb) 4#32
/-- The first group's scales. -/
def sc0 : FVec F S512x1 .f32 := k0_pay231 (k0_pay225 xb wb) (e0a xb wb) (e0b xb wb) 4#32
/-- The second group's exponent, short of its last bit. -/
def e1a : IVec S512x1 32 := k0_pay239 (k0_pay235 (k0_pay223 xb wb)) (k0_pay236 (k0_pay223 xb wb)) (k0_pay237 (k0_pay223 xb wb)) k0_pay238
/-- The same with its last bit set. -/
def e1b : IVec S512x1 32 := k0_pay240 (k0_pay235 (k0_pay223 xb wb)) (k0_pay236 (k0_pay223 xb wb)) (k0_pay237 (k0_pay223 xb wb)) k0_pay238
/-- The second group's codes. -/
def cod1 : Vec F S512x128 .fp8e4m3 := k0_pay1 (k0_pay234 (k0_pay223 xb wb)) (k0_pay242 (k0_pay235 (k0_pay223 xb wb)) (e1a xb wb) (e1b xb wb) k0_pay241)
/-- The word of the second group's scales, before its shift into place. -/
def sc1 : IVec S512x1 32 := k0_pay243 (k0_pay235 (k0_pay223 xb wb)) (e1a xb wb) (e1b xb wb) k0_pay241

/-- The block of codes that a grid point writes. -/
def outCodes : Vec F S512x256 .fp8e4m3 :=
  View.canon [⟨Rect.unit ![0, 128] S512x128.size inb_S512x256_S512x128_0_128, cod1 xb wb⟩, ⟨Rect.unit ![0, 0] S512x128.size inb_S512x256_S512x128_0_0, cod0 xb wb⟩]

/-- The block of scales that a grid point of column `n` leaves, from the block it finds. -/
def outScale (n : ℕ) (old : Vec F S512x14 .f32) : Vec F S512x14 .f32 :=
  k0_pay2 (BitVec.ofNat 32 n) (iota .tc S512x14 32 [1] iota_S512x14_d1_w32) (sc1 xb wb) k0_pay244
    (k0_pay233 (BitVec.ofNat 32 n) (iota .tc S512x14 32 [1] iota_S512x14_d1_w32) (sc0 xb wb) old)

/-- The two stores of codes, read back. -/
theorem read_codes {κ : Kind} {sp : Space} (v : View sig κ sp S512x256 .fp8e4m3) (f : v.ty.Contents (Elt F)) (p1 p0 : Vec F S512x128 .fp8e4m3)
    (h1 : p1 = cod1 xb wb) (h0 : p0 = cod0 xb wb) :
    v.read (Elt F) (v.writes (Elt F) f [⟨Rect.unit (s := S512x256) ![0, 128] S512x128.size inb_S512x256_S512x128_0_128, p1⟩,
      ⟨Rect.unit (s := S512x256) ![0, 0] S512x128.size inb_S512x256_S512x128_0_0, p0⟩]) = outCodes xb wb := by
  subst h1 h0
  exact View.read_writes_eq_canon v f _ (View.cover_of_tiled _ ![512, 128] (by rfl))

end Post

/-- A store of the whole buffer, read back. -/
theorem read_whole_store {s : Shape} {e : EltTy} {κ : Kind} {sp : Space} (v : View sig κ sp s e) (f : v.ty.Contents (Elt F)) (off : Fin s.rank → ℕ)
    (inb : ∀ a, off a + s.size a ≤ s.size a) (w : s.Idx → Elt F e) (L : List (View.Piece (Elt F) s e)) (h0 : ∀ a, off a = 0) :
    v.read (Elt F) (v.writes (Elt F) f (⟨Rect.unit off s.size inb, w⟩ :: L)) = w := by
  rw [View.read_writes_eq_canon v f _ fun y => ⟨_, List.mem_cons_self, ?_⟩]
  · exact View.canon_cons_unit_lit inb w L h0
  · exact (Rect.mem_set_unit (inb := inb)).mpr fun a => ⟨by rw [h0 a]; exact Nat.zero_le _, by rw [h0 a, Nat.zero_add]; exact (y a).isLt⟩

/-- The same, through a load of the whole buffer. -/
theorem load_whole_store {s : Shape} {e : EltTy} {κ : Kind} {sp : Space} (v : View sig κ sp s e) (off off' : Fin s.rank → ℕ)
    (inb : ∀ a, off a + s.size a ≤ s.size a) (inb' : ∀ a, off' a + s.size a ≤ s.size a) (w : s.Idx → Elt F e) (L : List (View.Piece (Elt F) s e))
    (h0 : ∀ a, off a = 0) (h0' : ∀ a, off' a = 0) :
    v.readCov (⟨Rect.unit off s.size inb, w⟩ :: L) (Rect.unit off' s.size inb').toLoadRect = w := by
  rw [View.readCov_eq_canon', View.canon_cons_unit_lit inb w L h0]
  funext y
  refine congrArg w ?_
  funext a; apply Fin.ext
  exact (Rect.idx_unit_val off' s.size inb' y a).trans (by rw [h0' a, Nat.zero_add])

/-- A load of the whole buffer from contents known. -/
theorem load_whole {s : Shape} {e : EltTy} {κ : Kind} {sp : Space} (m : Memref sig κ sp s e) (hm : m.IsWhole) (off : Fin s.rank → ℕ)
    (inb : ∀ a, off a + s.size a ≤ s.size a) (X : s.Idx → Elt F e) (h0 : ∀ a, off a = 0) :
    View.readAt (Elt F) m.view (Rect.unit off s.size inb).toLoadRect (hm.unread X) = X := by
  rw [View.readAt_eq_ld, hm.read_unread]
  funext y
  exact View.ld_unit_apply_of X off s.size inb y y fun a => by rw [h0 a, Nat.zero_add]

end Cert.KernelIdeal.Hand

end
-- ==== Proof.Scale.lean ====
/-
  The power-of-two scale of a group, from its scaled maximum `v`: the kernel finds the exponent field of `v` by bisection and
  shifts exponent words into place, the reference takes the logarithm. Both are the same function on the extended reals.
-/
module

public import Idealize.ShloMosaic.Lib.Pointwise

@[expose] public section

set_option maxRecDepth 16384

noncomputable section

namespace Cert.Scale

open Idealize.ShloMosaic

/-- The extended real whose float32 word is the word `e` shifted to the exponent field. -/
def pw (e : BitVec 32) : EReal := Ideal.ofBits .f32 (IntOp.shli .vector e 23#32)

/-- One step of the bisection: keep the bit `b` of the exponent unless the power it gives is above `v`. -/
def step (v : EReal) (e b : BitVec 32) : BitVec 32 := if v < pw (IntOp.addi e b) then e else IntOp.addi e b

/-- The exponent that the bisection finds. -/
def kExp (v : EReal) : BitVec 32 :=
  step v (step v (step v (step v (step v (step v (step v (step v 0#32 128#32) 64#32) 32#32) 16#32) 8#32) 4#32) 2#32) 1#32

/-- The exponent, zero replaced by that of one half. -/
def kExp' (v : EReal) : BitVec 32 := Scalar.select (IntOp.cmpi .eq (kExp v) 0#32) 126#32 (kExp v)

/-- The kernel's scale. -/
def kScale (v : EReal) : EReal := pw (IntOp.addi (kExp' v) 1#32)

/-- The kernel's inverse scale. -/
def kInv (v : EReal) : EReal := pw (IntOp.subi 253#32 (kExp' v))

/-- The reference's exponent. -/
def rExp (v : EReal) : EReal :=
  if v < Ideal.ofBits .f32 0x00800000#32 then 0
  else Ideal.liftRound Int.floor (Ideal.div (Ideal.log v) (Ideal.log (Ideal.ofBits .f32 0x40000000#32))) + Ideal.ofBits .f32 0x3F800000#32

/-- The reference's scale. -/
def rScale (v : EReal) : EReal :=
  if v < Ideal.ofBits .f32 0x7F000000#32 then Ideal.exp2 (rExp v)
  else if v < Ideal.ofBits .f32 0x7F800000#32 then Ideal.ofBits .f32 0x7F800000#32 else 0

/-- The reference's inverse scale. -/
def rInv (v : EReal) : EReal :=
  if v < Ideal.ofBits .f32 0x7E800000#32 then Ideal.exp2 (0 - rExp v)
  else if v < Ideal.ofBits .f32 0x7F000000#32 then 0
  else if v < Ideal.ofBits .f32 0x7F800000#32 then Ideal.ofBits .f32 0xFF800000#32 else Ideal.ofBits .f32 0xFF000000#32

/-! ## The powers -/

theorem pw_bits : ∀ k : Fin 256, ((IntOp.shli .vector (BitVec.ofNat 32 k.val) 23#32).extractLsb' 23 8).toNat = k.val ∧
    ((IntOp.shli .vector (BitVec.ofNat 32 k.val) 23#32).extractLsb' 0 23).toNat = 0 ∧
    ((IntOp.shli .vector (BitVec.ofNat 32 k.val) 23#32).extractLsb' 31 1 == 1#1) = false := by
  decide +kernel

theorem pw_eq (k : ℕ) (h1 : 1 ≤ k) (h2 : k < 255) : pw (BitVec.ofNat 32 k) = (((2 : ℝ) ^ ((k : ℤ) - 127) : ℝ) : EReal) := by
  obtain ⟨e1, e2, e3⟩ := pw_bits ⟨k, by omega⟩
  simp only at e1 e2 e3
  unfold pw
  generalize IntOp.shli .vector (BitVec.ofNat 32 k) 23#32 = w at e1 e2 e3 ⊢
  show Ideal.ieee 8 23 w = _
  unfold Ideal.ieee
  simp only [Nat.reduceAdd, e1, e2, e3]
  rw [if_neg (by omega), if_neg (by omega)]
  congr 1
  have h : ((k : ℤ) - 127) = 23 + ((k : ℤ) - (2 ^ (8 - 1) - 1) - (23 : ℕ)) := by norm_num
  rw [h, zpow_add₀ (by norm_num : (2 : ℝ) ≠ 0)]
  norm_num

theorem pw_zero : pw 0#32 = 0 := by
  have h : IntOp.shli .vector 0#32 23#32 = 0x00000000#32 := by decide +kernel
  unfold pw
  rw [h]
  simp [Ideal.ofBits, Ideal.ieee]

theorem pw_255 : pw 255#32 = ⊤ := by
  have h : IntOp.shli .vector 255#32 23#32 = 0x7F800000#32 := by decide +kernel
  unfold pw
  rw [h]
  simp [Ideal.ofBits, Ideal.ieee]

theorem pw_256 : pw 256#32 = 0 := by
  have h : IntOp.shli .vector 256#32 23#32 = 0x80000000#32 := by decide +kernel
  unfold pw
  rw [h]
  simp [Ideal.ofBits, Ideal.ieee]

/-- The power at an exponent word below 256. -/
def pk (k : ℕ) : EReal := pw (BitVec.ofNat 32 k)

theorem step_spec (v : EReal) (e b : ℕ) (hb : 1 ≤ b) (he : e + 2 * b ≤ 256) (lo : e = 0 ∨ pk e ≤ v) (hi : e + 2 * b = 256 ∨ v < pk (e + 2 * b)) :
    ∃ e', step v (BitVec.ofNat 32 e) (BitVec.ofNat 32 b) = BitVec.ofNat 32 e' ∧ e' + b ≤ 256 ∧ (e' = 0 ∨ pk e' ≤ v) ∧ (e' + b = 256 ∨ v < pk (e' + b)) := by
  have hadd : IntOp.addi (BitVec.ofNat 32 e) (BitVec.ofNat 32 b) = BitVec.ofNat 32 (e + b) := (BitVec.ofNat_add e b).symm
  unfold step
  rw [hadd]
  by_cases h : v < pw (BitVec.ofNat 32 (e + b))
  · exact ⟨e, by rw [if_pos h], by omega, lo, Or.inr h⟩
  · refine ⟨e + b, by rw [if_neg h], by omega, Or.inr (not_lt.mp h), ?_⟩
    rw [add_assoc, ← two_mul]; exact hi

theorem kExp_spec (v : EReal) : ∃ e, kExp v = BitVec.ofNat 32 e ∧ e + 1 ≤ 256 ∧ (e = 0 ∨ pk e ≤ v) ∧ (e + 1 = 256 ∨ v < pk (e + 1)) := by
  obtain ⟨e1, h1, b1, l1, u1⟩ := step_spec v 0 128 (by norm_num) (by norm_num) (Or.inl rfl) (Or.inl rfl)
  obtain ⟨e2, h2, b2, l2, u2⟩ := step_spec v e1 64 (by norm_num) b1 l1 u1
  obtain ⟨e3, h3, b3, l3, u3⟩ := step_spec v e2 32 (by norm_num) b2 l2 u2
  obtain ⟨e4, h4, b4, l4, u4⟩ := step_spec v e3 16 (by norm_num) b3 l3 u3
  obtain ⟨e5, h5, b5, l5, u5⟩ := step_spec v e4 8 (by norm_num) b4 l4 u4
  obtain ⟨e6, h6, b6, l6, u6⟩ := step_spec v e5 4 (by norm_num) b5 l5 u5
  obtain ⟨e7, h7, b7, l7, u7⟩ := step_spec v e6 2 (by norm_num) b6 l6 u6
  obtain ⟨e8, h8, b8, l8, u8⟩ := step_spec v e7 1 (by norm_num) b7 l7 u7
  refine ⟨e8, ?_, b8, l8, u8⟩
  unfold kExp
  rw [h1, h2, h3, h4, h5, h6, h7, h8]

/-! ## The reference's constants -/

theorem c_min : Ideal.ofBits .f32 0x00800000#32 = pk 1 :=
  congrArg (Ideal.ofBits .f32) (show 0x00800000#32 = IntOp.shli .vector (BitVec.ofNat 32 1) 23#32 by decide +kernel)
theorem c_126 : Ideal.ofBits .f32 0x7E800000#32 = pk 253 :=
  congrArg (Ideal.ofBits .f32) (show 0x7E800000#32 = IntOp.shli .vector (BitVec.ofNat 32 253) 23#32 by decide +kernel)
theorem c_127 : Ideal.ofBits .f32 0x7F000000#32 = pk 254 :=
  congrArg (Ideal.ofBits .f32) (show 0x7F000000#32 = IntOp.shli .vector (BitVec.ofNat 32 254) 23#32 by decide +kernel)
theorem c_top : Ideal.ofBits .f32 0x7F800000#32 = ⊤ := by
  simp [Ideal.ofBits, Ideal.ieee]
theorem c_bot : Ideal.ofBits .f32 0xFF800000#32 = ⊥ := by
  simp [Ideal.ofBits, Ideal.ieee]
theorem c_one : Ideal.ofBits .f32 0x3F800000#32 = ((1 : ℝ) : EReal) := by
  have h : Ideal.ofBits .f32 0x3F800000#32 = pw (BitVec.ofNat 32 127) := congrArg (Ideal.ofBits .f32) (by decide +kernel)
  rw [h, pw_eq 127 (by norm_num) (by norm_num)]; norm_num
theorem c_two : Ideal.ofBits .f32 0x40000000#32 = ((2 : ℝ) : EReal) := by
  have h : Ideal.ofBits .f32 0x40000000#32 = pw (BitVec.ofNat 32 128) := congrArg (Ideal.ofBits .f32) (by decide +kernel)
  rw [h, pw_eq 128 (by norm_num) (by norm_num)]; norm_num

theorem pk_eq (k : ℕ) (h1 : 1 ≤ k) (h2 : k < 255) : pk k = (((2 : ℝ) ^ ((k : ℤ) - 127) : ℝ) : EReal) := pw_eq k h1 h2

theorem pk_mono {j k : ℕ} (h1 : 1 ≤ j) (hjk : j ≤ k) (h2 : k < 256) : pk j ≤ pk k := by
  by_cases hk : k = 255
  · subst hk; exact (le_top : pk j ≤ ⊤).trans_eq pw_255.symm
  · rw [pk_eq j h1 (by omega), pk_eq k (by omega) (by omega), EReal.coe_le_coe_iff]
    exact zpow_le_zpow_right₀ (by norm_num) (by omega)

/-- The reference's exponent where the bisection's is `e`, from 1 to 253. -/
theorem rExp_mid (v : EReal) (e : ℕ) (h1 : 1 ≤ e) (h2 : e ≤ 253) (lo : pk e ≤ v) (hi : v < pk (e + 1)) :
    rExp v = (((e : ℝ) - 126 : ℝ) : EReal) := by
  rw [pk_eq e h1 (by omega)] at lo
  rw [pk_eq (e + 1) (by omega) (by omega)] at hi
  have hmin : ¬ v < Ideal.ofBits .f32 0x00800000#32 := by
    rw [c_min]
    refine not_lt.mpr (le_trans (pk_mono (le_refl 1) h1 (by omega)) ?_)
    rw [pk_eq e h1 (by omega)]; exact lo
  unfold rExp
  rw [if_neg hmin, c_one, c_two]
  induction v using EReal.rec with
  | bot => exact absurd lo (by simp)
  | top => exact absurd hi (by simp)
  | coe r =>
    rw [EReal.coe_le_coe_iff] at lo
    rw [EReal.coe_lt_coe_iff] at hi
    have hr : 0 < r := lt_of_lt_of_le (by positivity) lo
    have hl2 : 0 < Real.log 2 := Real.log_pos (by norm_num)
    rw [Ideal.log_coe, Ideal.log_coe, if_neg (not_le.mpr hr), if_neg (by norm_num), Ideal.div_coe hl2.ne', ← EReal.coe_mul, Ideal.liftRound_coe,
      ← EReal.coe_add]
    congr 1
    have hf : ⌊Real.log r * (1 / Real.log 2)⌋ = (e : ℤ) - 127 := by
      rw [Int.floor_eq_iff]
      have a1 := Real.log_le_log (by positivity) lo
      have a2 := Real.log_lt_log hr hi
      rw [Real.log_zpow] at a1 a2
      rw [mul_one_div]
      constructor
      · rw [le_div_iff₀ hl2]; exact a1
      · rw [div_lt_iff₀ hl2]; refine lt_of_lt_of_eq a2 ?_
        push_cast; ring
    rw [hf]; push_cast; ring

theorem exp2_int (z : ℤ) (x : ℝ) (h : x = z) : Ideal.exp2 (x : EReal) = (((2 : ℝ) ^ z : ℝ) : EReal) := by
  rw [Ideal.exp2_coe, h]
  congr 1
  exact Real.rpow_intCast 2 z

/-- The kernel's two scales, from the exponent that the bisection finds. -/
theorem kExp'_of (v : EReal) (e : ℕ) (he : kExp v = BitVec.ofNat 32 e) (h : e < 256) : kExp' v = BitVec.ofNat 32 (if e = 0 then 126 else e) := by
  unfold kExp'
  rw [he]
  by_cases h0 : e = 0
  · subst h0; rfl
  · rw [if_neg h0]
    have hne : BitVec.ofNat 32 e ≠ 0#32 := by
      intro hc
      have := congrArg BitVec.toNat hc
      simp only [BitVec.toNat_ofNat] at this
      omega
    have hc : (BitVec.ofNat 32 e == 0#32) = false := by simpa using hne
    simp only [Scalar.select, IntOp.cmpi, hc]
    exact if_neg (by decide)

theorem subi_253 (e : ℕ) (h : e ≤ 253) : IntOp.subi 253#32 (BitVec.ofNat 32 e) = BitVec.ofNat 32 (253 - e) := by
  apply BitVec.eq_of_toNat_eq
  simp only [IntOp.subi, BitVec.toNat_sub, BitVec.toNat_ofNat]
  omega

/-- Both scales agree, whatever the scaled maximum is. -/
theorem scales_eq (v : EReal) : kScale v = rScale v ∧ kInv v = rInv v := by
  obtain ⟨e, he, hb, lo, hi⟩ := kExp_spec v
  have hE := kExp'_of v e he (by omega)
  unfold kScale kInv
  rw [hE]
  by_cases h0 : e = 0
  · subst h0
    have hv : v < pk 1 := hi.resolve_left (by norm_num)
    have hr : rExp v = 0 := by unfold rExp; rw [c_min, if_pos hv]
    have h254 : v < pk 254 := lt_of_lt_of_le hv (pk_mono (le_refl 1) (by norm_num) (by norm_num))
    have h253 : v < pk 253 := lt_of_lt_of_le hv (pk_mono (le_refl 1) (by norm_num) (by norm_num))
    have h127 : pw 127#32 = Ideal.exp2 0 := by
      rw [show (127#32 : BitVec 32) = BitVec.ofNat 32 127 from rfl, pw_eq 127 (by norm_num) (by norm_num)]
      exact (exp2_int 0 0 (by norm_num)).symm
    constructor
    · unfold rScale; rw [c_127, if_pos h254, hr]; exact h127
    · unfold rInv; rw [c_126, if_pos h253, hr, sub_zero]; exact h127
  · rw [if_neg h0]
    have hlo : pk e ≤ v := lo.resolve_left h0
    have hadd : IntOp.addi (BitVec.ofNat 32 e) 1#32 = BitVec.ofNat 32 (e + 1) := (BitVec.ofNat_add e 1).symm
    rw [hadd]
    by_cases h3 : e ≤ 253
    · have hv : v < pk (e + 1) := hi.resolve_left (by omega)
      have hr := rExp_mid v e (by omega) h3 hlo hv
      have h254 : v < pk 254 := lt_of_lt_of_le hv (pk_mono (by omega) (by omega) (by norm_num))
      constructor
      · unfold rScale
        rw [c_127, if_pos h254, hr, pw_eq (e + 1) (by omega) (by omega), exp2_int ((e : ℤ) - 126) _ (by push_cast; ring)]
        congr 2; push_cast; ring
      · rw [subi_253 e h3]
        unfold rInv
        by_cases h2 : e ≤ 252
        · have h253 : v < pk 253 := lt_of_lt_of_le hv (pk_mono (by omega) (by omega) (by norm_num))
          rw [c_126, if_pos h253, hr, pw_eq (253 - e) (by omega) (by omega), zero_sub, ← EReal.coe_neg,
            exp2_int (126 - (e : ℤ)) _ (by push_cast; ring)]
          congr 2; omega
        · have h2' : e = 253 := by omega
          subst h2'
          rw [c_126, if_neg (not_lt.mpr hlo), c_127, if_pos h254]
          exact pw_zero
    · have h254 : ¬ v < pk 254 := not_lt.mpr (le_trans (pk_mono (by norm_num) (by omega) (by omega)) hlo)
      have h253 : ¬ v < pk 253 := not_lt.mpr (le_trans (pk_mono (by norm_num) (by omega) (by omega)) hlo)
      unfold rScale rInv
      rw [c_126, c_127, if_neg h254, if_neg h253, if_neg h254, c_top]
      by_cases h4 : e = 254
      · subst h4
        have hv : v < pk 255 := hi.resolve_left (by norm_num)
        have hv' : v < ⊤ := by rw [← pw_255]; exact hv
        rw [if_pos hv', if_pos hv']
        exact ⟨pw_255, rfl⟩
      · have h5 : e = 255 := by omega
        subst h5
        have hv : ¬ v < ⊤ := not_lt.mpr (by rw [← pw_255]; exact hlo)
        rw [if_neg hv, if_neg hv]
        exact ⟨pw_256, rfl⟩

end Cert.Scale

end
-- ==== Proof.Tile.lean ====
/-
  One grid point's results at an index, on the extended reals: each group's scaled maximum, its scale and its codes, from the
  dequantised activations and weights.
-/
module

public import proofs.«01_k».proof.Proof.Runs
public import proofs.«01_k».proof.Proof.Scale

@[expose] public section

set_option maxRecDepth 16384

noncomputable section

namespace Cert.KernelIdeal.Hand

open Cert.KernelIdeal.Gen Cert.Scale
open Idealize.ShloMosaic Idealize.ShloMosaic.Tactic

/-! ## The bisection -/

/-- One step of the bisection on a column of values. -/
def vstep (v : FVec Ideal S512x1 .f32) (e : IVec S512x1 32) (b : BitVec 32) : IVec S512x1 32 :=
  select (cmpf .olt v (bitcastToFloat .f32 (shli (addi e (broadcast S512x1 b)) (broadcast S512x1 23#32)))) e (addi e (broadcast S512x1 b))

theorem vstep_apply (v : FVec Ideal S512x1 .f32) (e : IVec S512x1 32) (b : BitVec 32) (j : S512x1.Idx) :
    vstep v e b j = step (v j) (e j) b := by
  pointwise [vstep, step, pw]

/-- The column of exponents. -/
def vexp (v : FVec Ideal S512x1 .f32) : IVec S512x1 32 :=
  vstep v (vstep v (vstep v (vstep v (vstep v (vstep v (vstep v (vstep v (broadcast S512x1 0#32) 128#32) 64#32) 32#32) 16#32) 8#32) 4#32) 2#32) 1#32

theorem vexp_apply (v : FVec Ideal S512x1 .f32) (j : S512x1.Idx) : vexp v j = kExp (v j) := by
  unfold vexp kExp
  rw [vstep_apply, vstep_apply, vstep_apply, vstep_apply, vstep_apply, vstep_apply, vstep_apply, vstep_apply]
  rfl

/-- The column of exponents, zero replaced by that of one half. -/
def vexp' (v : FVec Ideal S512x1 .f32) : IVec S512x1 32 :=
  select (cmpi .eq (vexp v) (broadcast S512x1 0#32)) (broadcast S512x1 126#32) (vexp v)

theorem vexp'_apply (v : FVec Ideal S512x1 .f32) (j : S512x1.Idx) : vexp' v j = kExp' (v j) := by
  show Scalar.select (IntOp.cmpi .eq (vexp v j) 0#32) 126#32 (vexp v j) = _
  rw [vexp_apply]
  rfl

variable (xb : Vec Ideal S512x3584 .bf16) (wb : Vec Ideal S3584x512 .bf16)

theorem exp0_eq : k0_pay230 (k0_pay225 xb wb) (e0a xb wb) (e0b xb wb) 4#32 = vexp' (k0_pay225 xb wb) := rfl

theorem exp1_eq : k0_pay242 (k0_pay235 (k0_pay223 xb wb)) (e1a xb wb) (e1b xb wb) k0_pay241 = vexp' (k0_pay235 (k0_pay223 xb wb)) := rfl

/-! ## The values at an index -/

/-- The product of activations and weights. -/
def gT (r : Fin 512) (j : Fin 512) : EReal := ∑ k : Fin 3584, xb (ix2 r k) * wb (ix2 k j)

/-- The activation of gate and up, at a column of the tile. -/
def hT (r : Fin 512) (l : Fin 256) : EReal :=
  gT xb wb r ⟨256 * (l.val / 128) + l.val % 128, by omega⟩ * Ideal.logistic (gT xb wb r ⟨256 * (l.val / 128) + l.val % 128, by omega⟩)
    * gT xb wb r ⟨256 * (l.val / 128) + 128 + l.val % 128, by omega⟩

/-- A group's scaled maximum. -/
def vT (r : Fin 512) (p : Fin 2) : EReal :=
  (Finset.univ.fold max (Ideal.ofBits .f32 0xFF800000#32) fun x : Fin 128 => FloatOps.absf (F := Ideal) (φ := .f32) (hT xb wb r ⟨128 * p.val + x.val, by omega⟩))
    * Ideal.ofBits .f32 0x3B124925#32

/-- A code. -/
def cT (r : Fin 512) (l : Fin 256) : EReal :=
  min (Ideal.ofBits .f32 0x43E00000#32) (max (Ideal.ofBits .f32 0xC3E00000#32) (hT xb wb r l * kInv (vT xb wb r ⟨l.val / 128, by omega⟩)))

theorem pay223_apply (r j : Fin 512) : k0_pay223 xb wb (ix2 r j) = gT xb wb r j := by
  pointwise [k0_pay223, gT]

theorem pay224_apply (r : Fin 512) (x : Fin 128) : k0_pay224 xb wb (ix2 r x) = hT xb wb r ⟨x.val, by omega⟩ := by
  pointwise [k0_pay224, pay223_apply]
  unfold hT
  have h0 : (⟨256 * (x.val / 128) + x.val % 128, by omega⟩ : Fin 512) = ⟨x.val, by omega⟩ := Fin.ext (by simp only; omega)
  have h1 : (⟨256 * (x.val / 128) + 128 + x.val % 128, by omega⟩ : Fin 512) = ⟨128 + x.val, by omega⟩ := Fin.ext (by simp only; omega)
  simp only [h0, h1]

theorem pay234_apply (r : Fin 512) (x : Fin 128) : k0_pay234 (k0_pay223 xb wb) (ix2 r x) = hT xb wb r ⟨128 + x.val, by omega⟩ := by
  pointwise [k0_pay234, pay223_apply]
  unfold hT
  have h0 : (⟨256 * ((128 + x.val) / 128) + (128 + x.val) % 128, by omega⟩ : Fin 512) = ⟨256 + x.val, by omega⟩ := Fin.ext (by simp only; omega)
  have h1 : (⟨256 * ((128 + x.val) / 128) + 128 + (128 + x.val) % 128, by omega⟩ : Fin 512) = ⟨384 + x.val, by omega⟩ := Fin.ext (by simp only; omega)
  simp only [h0, h1]

theorem pay225_apply (r : Fin 512) : k0_pay225 xb wb (ix2 r 0) = vT xb wb r 0 := by
  pointwise [k0_pay225, pay224_apply]
  unfold vT
  congr 2
  funext x
  congr 2
  exact Fin.ext (by simp)

theorem pay235_apply (r : Fin 512) : k0_pay235 (k0_pay223 xb wb) (ix2 r 0) = vT xb wb r 1 := by
  pointwise [k0_pay235, pay234_apply]
  unfold vT
  congr 2

theorem sc0_apply (r : Fin 512) : sc0 xb wb (ix2 r 0) = kScale (vT xb wb r 0) := by
  pointwise [sc0, k0_pay231, exp0_eq, vexp'_apply, pay225_apply]
  rfl

theorem cod0_apply (r : Fin 512) (x : Fin 128) : cod0 xb wb (ix2 r x) = cT xb wb r ⟨x.val, by omega⟩ := by
  pointwise [cod0, k0_pay232, exp0_eq, vexp'_apply, pay225_apply, pay224_apply]
  unfold cT
  have h0 : (⟨x.val / 128, by omega⟩ : Fin 2) = 0 := Fin.ext (by simp only [Fin.val_zero]; omega)
  simp only [h0]
  rfl

theorem cod1_apply (r : Fin 512) (x : Fin 128) : cod1 xb wb (ix2 r x) = cT xb wb r ⟨128 + x.val, by omega⟩ := by
  pointwise [cod1, k0_pay1, exp1_eq, vexp'_apply, pay235_apply, pay234_apply]
  unfold cT
  have h0 : (⟨(128 + x.val) / 128, by omega⟩ : Fin 2) = 1 := Fin.ext (by simp only [Fin.val_one]; omega)
  simp only [h0]
  rfl

theorem outCodes_apply (r : Fin 512) (l : Fin 256) : outCodes xb wb (ix2 r l) = cT xb wb r l := by
  unfold outCodes
  canon_tiles x h
  · idx_vars x
    refine (cod1_apply xb wb _ _).trans (congrArg₂ (cT xb wb) (Fin.ext ?_) (Fin.ext ?_))
    · exact h0.symm
    · exact h1.symm
  · idx_vars x
    refine (cod0_apply xb wb _ _).trans (congrArg₂ (cT xb wb) (Fin.ext ?_) (Fin.ext ?_))
    · exact h0.symm
    · exact h1.symm

theorem select_eq {α : Type} (p : Prop) [Decidable p] (a b : BitVec 32) (h : a = b ↔ p) (x y : α) :
    Scalar.select (IntOp.cmpi .eq a b) x y = if p then x else y := by
  by_cases hp : p
  · rw [if_pos hp, h.mpr hp]
    simp [Scalar.select, IntOp.cmpi]
  · rw [if_neg hp]
    have hn : (a == b) = false := by simpa using fun e => hp (h.mp e)
    simp only [Scalar.select, IntOp.cmpi, hn]
    exact if_neg (by decide)

/-- The lane of a scale: lane `l` of the block is column `n`'s group `q` just when `l = 2 n + q`. -/
theorem lane_eq (n : ℕ) (hn : n < 7) (l : Fin 14) (q : ℕ) (hq : q < 2) :
    BitVec.ofNat 32 l.val = Scalar.addi (Scalar.muli (BitVec.ofNat 32 n) 2#32) (BitVec.ofNat 32 q) ↔ l.val = 2 * n + q := by
  have hl := l.isLt
  constructor
  · intro h
    have h' := congrArg BitVec.toNat h
    simp only [Scalar.addi, Scalar.muli, IntOp.addi, IntOp.muli, BitVec.toNat_add, BitVec.toNat_mul, BitVec.toNat_ofNat] at h'
    omega
  · intro h
    apply BitVec.eq_of_toNat_eq
    simp only [Scalar.addi, Scalar.muli, IntOp.addi, IntOp.muli, BitVec.toNat_add, BitVec.toNat_mul, BitVec.toNat_ofNat]
    omega

theorem outScale_apply (n : ℕ) (hn : n < 7) (old : Vec Ideal S512x14 .f32) (r : Fin 512) (l : Fin 14) :
    outScale xb wb n old (ix2 r l) = if l.val / 2 = n then kScale (vT xb wb r ⟨l.val % 2, by omega⟩) else old (ix2 r l) := by
  pointwise [outScale, k0_pay2, k0_pay233, k0_pay244, sc1, k0_pay243, exp1_eq, vexp'_apply, sc0_apply, pay235_apply]
  rw [select_eq _ _ _ (lane_eq n hn l 1 (by norm_num)), select_eq _ _ _ (lane_eq n hn l 0 (by norm_num))]
  by_cases h1 : l.val = 2 * n + 1
  · have hm : (⟨l.val % 2, by omega⟩ : Fin 2) = 1 := Fin.ext (by simp only [Fin.val_one]; omega)
    rw [if_pos h1, if_pos (by omega), hm]
    rfl
  · rw [if_neg h1]
    by_cases h0 : l.val = 2 * n + 0
    · have hm : (⟨l.val % 2, by omega⟩ : Fin 2) = 0 := Fin.ext (by simp only [Fin.val_zero]; omega)
      rw [if_pos h0, if_pos (by omega), hm]
    · rw [if_neg h0, if_neg (by omega)]

end Cert.KernelIdeal.Hand

end
-- ==== Proof.Blocks.lean ====
/-
  The block of each input window at a grid point, as a part of the array it is cut from.
-/
module

public import proofs.«01_k».proof.Proof.Tile

@[expose] public section

set_option maxRecDepth 16384

noncomputable section

namespace Cert.KernelIdeal.Hand

open Cert.KernelIdeal.Gen Cert.Scale
open Idealize.ShloMosaic Idealize.ShloMosaic.TcCoe Idealize.ShloMosaic.Tactic

variable (m : (ℓ : Loc nD τ sig) → Buf (Elt Ideal) ℓ)

/-- The activations' codes and scales, the tokens of all batches in one axis; the weights' codes and scales. -/
def X0 (c : Dev nD) : Vec Ideal S3072x3584 .fp8e4m3 := V m c main_v0
def X1 (c : Dev nD) : Vec Ideal S3072x28 .f32 := V m c main_v1
def X2 (c : Dev nD) : Vec Ideal S3584x3584 .fp8e4m3 := V m c main_arg2
def X3 (c : Dev nD) : Vec Ideal S28x28 .f32 := V m c main_arg3

/-- Each window's block index at a point. -/
theorem idx : ∀ t : Fin cfg0.N, win0_0.index t = ![t.val / 7, 0] ∧ win0_1.index t = ![t.val / 7, 0] ∧ win0_2.index t = ![0, t.val % 7]
    ∧ win0_3.index t = ![0, 0] ∧ win0_4.index t = ![t.val / 7, t.val % 7] ∧ win0_5.index t = ![t.val / 7, 0] := by decide +kernel

theorem lt42 (t : Fin cfg0.N) : t.val < 42 := lt_of_lt_of_eq t.isLt (show cfg0.N = 42 from N_0)

theorem coords1 (t : Fin cfg0.N) : (grid0.coords t 1).val = t.val % 7 := by
  have e1 : (grid0.coords t 1).val = t.val / 1 % 7 := Pipeline.Grid.coords_val t 1 (by decide) rfl
  rw [e1, Nat.div_one]

theorem iblk0 (c : Dev nD) (t : Fin cfg0.N) (r : Fin 512) (k : Fin 3584) :
    (iblk m c 0 t : Vec Ideal S512x3584 .fp8e4m3) (ix2 r k) = X0 m c (ix2 ⟨512 * (t.val / 7) + r.val, by have := lt42 t; omega⟩ k) := by
  unfold X0
  blk_ext [iblk, idx t]

theorem iblk1 (c : Dev nD) (t : Fin cfg0.N) (r : Fin 512) (k : Fin 28) :
    (iblk m c 1 t : Vec Ideal S512x28 .f32) (ix2 r k) = X1 m c (ix2 ⟨512 * (t.val / 7) + r.val, by have := lt42 t; omega⟩ k) := by
  unfold X1
  blk_ext [iblk, idx t]

theorem iblk2 (c : Dev nD) (t : Fin cfg0.N) (k : Fin 3584) (j : Fin 512) :
    (iblk m c 2 t : Vec Ideal S3584x512 .fp8e4m3) (ix2 k j) = X2 m c (ix2 k ⟨512 * (t.val % 7) + j.val, by omega⟩) := by
  unfold X2
  blk_ext [iblk, idx t]

theorem iblk3 (c : Dev nD) (t : Fin cfg0.N) (a b : Fin 28) :
    (iblk m c 3 t : Vec Ideal S28x28 .f32) (ix2 a b) = X3 m c (ix2 a b) := by
  unfold X3
  blk_ext [iblk, idx t]

end Cert.KernelIdeal.Hand

end
-- ==== Proof.RunA.lean ====
/-
  The run of the kernel's body at a grid point of the first column tile, where it dequantises its row tile of activations.
-/
module

public import proofs.«01_k».proof.Proof.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4652000 in
/-- The body's run at a grid point of the first column tile: the scratch `arg8` ends at the dequantised activations, the two
    output blocks at the codes and the scales computed from them. -/
theorem kernelRun0_A (c : Dev nD) (i : grid0.Coords) (arg2 : Memref sig .tc .vmem S512x3584 .fp8e4m3) (harg2 : arg2.IsWhole) (arg3 : Memref sig .tc .vmem S512x28 .f32) (harg3 : arg3.IsWhole) (arg4 : Memref sig .tc .vmem S3584x512 .fp8e4m3) (harg4 : arg4.IsWhole) (arg5 : Memref sig .tc .smem S28x28 .f32) (harg5 : arg5.IsWhole) (arg6 : Memref sig .tc .vmem S512x256 .fp8e4m3) (harg6 : arg6.IsWhole) (arg7 : Memref sig .tc .vmem S512x14 .f32) (harg7 : arg7.IsWhole) (arg8 : Memref sig .tc .vmem S512x3584 .bf16) (harg8 : arg8.IsWhole) (arg9 : Memref sig .tc .vmem S3584x512 .bf16) (harg9 : arg9.IsWhole) (hc0 : cond0_0 i)
    (x0 : Vec F S512x3584 .fp8e4m3) (x1 : Vec F S512x28 .f32) (x2 : Vec F S3584x512 .fp8e4m3) (x3 : Vec F S28x28 .f32) (d5 : Vec F S512x14 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outCodes (xbF x0 x1) (wbF i x2 x3)) ∗ owns (c : Thread nD τ) arg7 fullShare (outScale (xbF x0 x1) (wbF i x2 x3) (i 1).val d5) ∗ owns (c : Thread nD τ) arg8 fullShare (xbF x0 x1) ∗ (∃ d, owns (c : Thread nD τ) arg9 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9) K := by
    intro E K
    simp only [cc0_gate_up_swiglu_eq_skeleton]; unfold cc0_gate_up_swiglu_skel
    simp only [k0_part52_eq_skeleton, k0_part10_eq_skeleton, k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0)
    sl_step
    have hwb : kernelRun0_A.sl.v1349 c i arg4 harg4 arg5 harg5 arg9 x2 x3 = wbF i x2 x3 := by
      unfold kernelRun0_A.sl.v1349 kernelRun0_A.sl.HS1_112
      refine readCov_of_pieces arg9.view (wbF i x2 x3) _ ![0, 0] _ (by decide) ?_ (View.cover_of_tiled _ ![128, 128] (by rfl))
      repeat' first
        | exact pieces_nil
        | refine pieces_cons (fun x => piece_wb i arg4 harg4 arg5 harg5 x2 x3 _ _ _ _ (by exact ⟨rfl, rfl⟩) (by exact ClosedOff.eq) _ _ x) ?_
    have hpx : View.PiecesOf (xbF x0 x1) (kernelRun0_A.sl.HS0_28 c arg2 harg2 arg3 harg3 x0 x1) := by
      unfold kernelRun0_A.sl.HS0_28
      repeat' first
        | exact pieces_nil
        | refine pieces_cons (fun x => piece_xb arg2 harg2 arg3 harg3 x0 x1 _ _ _ _ (by exact ⟨rfl, rfl⟩) (by exact ⟨rfl, rfl⟩) _ _ _ _ x) ?_
    have hcx : ∀ y, ∃ p ∈ kernelRun0_A.sl.HS0_28 c arg2 harg2 arg3 harg3 x0 x1, y ∈ p.1.set := View.cover_of_tiled _ ![512, 128] (by rfl)
    have hxb : kernelRun0_A.sl.v1348 c arg2 harg2 arg3 harg3 arg8 x0 x1 = xbF x0 x1 :=
      readCov_of_pieces arg8.view (xbF x0 x1) _ ![0, 0] _ (by decide) hpx hcx
    have hold : View.readAt (Elt F) arg7.view (Rect.unit (s := S512x14) ![0, 0] S512x14.size inb_S512x14_S512x14_0_0).toLoadRect (harg7.unread d5) = d5 :=
      load_whole arg7 harg7 ![0, 0] _ d5 (by decide)
    have hmid : kernelRun0_A.sl.v1575 c i arg2 harg2 arg3 harg3 arg4 harg4 arg5 harg5 arg7 harg7 arg8 arg9 x0 x1 x2 x3 d5 = k0_pay233 (BitVec.ofNat 32 (i 1).val) (iota .tc S512x14 32 [1] iota_S512x14_d1_w32) (sc0 (xbF x0 x1) (wbF i x2 x3)) d5 := by
      refine (load_whole_store arg7.view ![0, 0] ![0, 0] inb_S512x14_S512x14_0_0 inb_S512x14_S512x14_0_0 _ [] (by decide) (by decide)).trans ?_
      exact congrArg₂ (fun s o => k0_pay233 (BitVec.ofNat 32 (i 1).val) (iota .tc S512x14 32 [1] iota_S512x14_d1_w32) s o) (congrArg₂ sc0 hxb hwb) hold
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact read_codes (xbF x0 x1) (wbF i x2 x3) arg6.view f4 _ _ (congrArg₂ cod1 hxb hwb) (congrArg₂ cod0 hxb hwb)
    isplitl [H5]
    · iexists _; isplitr; swap; · iexact H5
      ipureintro
      refine (read_whole_store arg7.view _ ![0, 0] inb_S512x14_S512x14_0_0 _ _ (by decide)).trans ?_
      exact congrArg₂ (fun s o => k0_pay2 (BitVec.ofNat 32 (i 1).val) (iota .tc S512x14 32 [1] iota_S512x14_d1_w32) s k0_pay244 o) (congrArg₂ sc1 hxb hwb) hmid
    isplitl [HS0]
    · iexists _; isplitr; swap; · iexact HS0
      ipureintro; exact (View.read_writes_eq_canon arg8.view fs0 _ hcx).trans (funext fun y => View.canon_apply_of_pieces (xbF x0 x1) _ hpx.mem y (hcx y))
    iexists _, _; isplitr; swap; · iexact HS1
    ipureintro; rfl

end Cert.KernelIdeal.Hand

end
-- ==== Proof.RunB.lean ====
/-
  The run of the kernel's body at a grid point past the first column tile, where the dequantised activations are already in scratch.
-/
module

public import proofs.«01_k».proof.Proof.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4020000 in
/-- The body's run at any other grid point: the scratch `arg8` is as it was, the two output blocks end at the codes and the
    scales computed from it. -/
theorem kernelRun0_B (c : Dev nD) (i : grid0.Coords) (arg2 : Memref sig .tc .vmem S512x3584 .fp8e4m3) (harg2 : arg2.IsWhole) (arg3 : Memref sig .tc .vmem S512x28 .f32) (harg3 : arg3.IsWhole) (arg4 : Memref sig .tc .vmem S3584x512 .fp8e4m3) (harg4 : arg4.IsWhole) (arg5 : Memref sig .tc .smem S28x28 .f32) (harg5 : arg5.IsWhole) (arg6 : Memref sig .tc .vmem S512x256 .fp8e4m3) (harg6 : arg6.IsWhole) (arg7 : Memref sig .tc .vmem S512x14 .f32) (harg7 : arg7.IsWhole) (arg8 : Memref sig .tc .vmem S512x3584 .bf16) (harg8 : arg8.IsWhole) (arg9 : Memref sig .tc .vmem S3584x512 .bf16) (harg9 : arg9.IsWhole) (hc0 : ¬cond0_0 i)
    (x0 : Vec F S512x3584 .fp8e4m3) (x1 : Vec F S512x28 .f32) (x2 : Vec F S3584x512 .fp8e4m3) (x3 : Vec F S28x28 .f32) (d5 : Vec F S512x14 .f32) (ds0 : Vec F S512x3584 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare ds0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outCodes ds0 (wbF i x2 x3)) ∗ owns (c : Thread nD τ) arg7 fullShare (outScale ds0 (wbF i x2 x3) (i 1).val d5) ∗ owns (c : Thread nD τ) arg8 fullShare ds0 ∗ (∃ d, owns (c : Thread nD τ) arg9 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9) K := by
    intro E K
    simp only [cc0_gate_up_swiglu_eq_skeleton]; unfold cc0_gate_up_swiglu_skel
    simp only [k0_part52_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0)
    sl_step
    have hwb : kernelRun0_B.sl.v1349 c i arg4 harg4 arg5 harg5 arg9 x2 x3 = wbF i x2 x3 := by
      unfold kernelRun0_B.sl.v1349 kernelRun0_B.sl.HS1_112
      refine readCov_of_pieces arg9.view (wbF i x2 x3) _ ![0, 0] _ (by decide) ?_ (View.cover_of_tiled _ ![128, 128] (by rfl))
      repeat' first
        | exact pieces_nil
        | refine pieces_cons (fun x => piece_wb i arg4 harg4 arg5 harg5 x2 x3 _ _ _ _ (by exact ⟨rfl, rfl⟩) (by exact ClosedOff.eq) _ _ x) ?_
    have hxb : View.readAt (Elt F) arg8.view (Rect.unit (s := S512x3584) ![0, 0] S512x3584.size inb_S512x3584_S512x3584_0_0).toLoadRect (harg8.unread ds0) = ds0 :=
      load_whole arg8 harg8 ![0, 0] _ ds0 (by decide)
    have hold : View.readAt (Elt F) arg7.view (Rect.unit (s := S512x14) ![0, 0] S512x14.size inb_S512x14_S512x14_0_0).toLoadRect (harg7.unread d5) = d5 :=
      load_whole arg7 harg7 ![0, 0] _ d5 (by decide)
    have hmid : kernelRun0_B.sl.v1575 c i arg4 harg4 arg5 harg5 arg7 harg7 arg8 harg8 arg9 x2 x3 d5 ds0 = k0_pay233 (BitVec.ofNat 32 (i 1).val) (iota .tc S512x14 32 [1] iota_S512x14_d1_w32) (sc0 ds0 (wbF i x2 x3)) d5 := by
      refine (load_whole_store arg7.view ![0, 0] ![0, 0] inb_S512x14_S512x14_0_0 inb_S512x14_S512x14_0_0 _ [] (by decide) (by decide)).trans ?_
      exact congrArg₂ (fun s o => k0_pay233 (BitVec.ofNat 32 (i 1).val) (iota .tc S512x14 32 [1] iota_S512x14_d1_w32) s o) (congrArg₂ sc0 hxb hwb) hold
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact read_codes ds0 (wbF i x2 x3) arg6.view f4 _ _ (congrArg₂ cod1 hxb hwb) (congrArg₂ cod0 hxb hwb)
    isplitl [H5]
    · iexists _; isplitr; swap; · iexact H5
      ipureintro
      refine (read_whole_store arg7.view _ ![0, 0] inb_S512x14_S512x14_0_0 _ _ (by decide)).trans ?_
      exact congrArg₂ (fun s o => k0_pay2 (BitVec.ofNat 32 (i 1).val) (iota .tc S512x14 32 [1] iota_S512x14_d1_w32) s k0_pay244 o) (congrArg₂ sc1 hxb hwb) hmid
    isplitl [HS0]
    · iexists _; isplitr; swap; · iexact HS0
      ipureintro; exact harg8.read_unread _
    iexists _, _; isplitr; swap; · iexact HS1
    ipureintro; rfl

end Cert.KernelIdeal.Hand

end
-- ==== Proof.Sound.lean ====
/-
  The run of the kernel on the extended reals: what every grid point leaves in the two result blocks, and from that what the two
  result arrays hold at the end.
-/
module

public import proofs.«01_k».proof.Proof.Blocks
public import proofs.«01_k».proof.Proof.RunA
public import proofs.«01_k».proof.Proof.RunB
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Hand

open Cert.KernelIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What a grid point computes from -/

/-- The dequantised activations of a grid point's row tile, and the dequantised weights of its column tile. -/
def XB (c : Dev nD) (t : Fin cfg0.N) : Vec Ideal S512x3584 .bf16 := xbF (iblk m c 0 t) (iblk m c 1 t)
def WB (c : Dev nD) (t : Fin cfg0.N) : Vec Ideal S3584x512 .bf16 := wbF (grid0.coords t) (iblk m c 2 t) (iblk m c 3 t)

/-- Two points of one row tile have the same activations. -/
theorem XB_congr (c : Dev nD) (t u : Fin cfg0.N) (h : t.val / 7 = u.val / 7) : XB m c t = XB m c u := by
  have e0 : (iblk m c 0 t : Vec Ideal S512x3584 .fp8e4m3) = (iblk m c 0 u : Vec Ideal S512x3584 .fp8e4m3) := by
    funext y
    idx_vars y
    refine (iblk0 m c t _ _).trans (Eq.trans ?_ (iblk0 m c u _ _).symm)
    simp only [h]
  have e1 : (iblk m c 1 t : Vec Ideal S512x28 .f32) = (iblk m c 1 u : Vec Ideal S512x28 .f32) := by
    funext y
    idx_vars y
    refine (iblk1 m c t _ _).trans (Eq.trans ?_ (iblk1 m c u _ _).symm)
    simp only [h]
  unfold XB
  exact congrArg₂ xbF e0 e1

/-- What the block of scales holds after a point: the scales of the point's row tile up to the point's column. -/
def RS (c : Dev nD) (t : Fin cfg0.N) (X : Vec Ideal S512x14 .f32) : Prop :=
  ∀ u : Fin cfg0.N, u.val / 7 = t.val / 7 → u.val ≤ t.val → ∀ (r : Fin 512) (l : Fin 14), l.val / 2 = u.val % 7 →
    X (ix2 r l) = kScale (vT (XB m c u) (WB m c u) r ⟨l.val % 2, by omega⟩)

/-- One more point: the scales of its column are stored, the earlier ones kept. -/
theorem RS_step (c : Dev nD) (t : Fin cfg0.N) (d : Vec Ideal S512x14 .f32)
    (hd : t.val % 7 ≠ 0 → ∀ u : Fin cfg0.N, u.val / 7 = t.val / 7 → u.val < t.val → ∀ (r : Fin 512) (l : Fin 14), l.val / 2 = u.val % 7 →
      d (ix2 r l) = kScale (vT (XB m c u) (WB m c u) r ⟨l.val % 2, by omega⟩))
    (n : ℕ) (hn : n = t.val % 7) : RS m c t (outScale (XB m c t) (WB m c t) n d) := by
  intro u hu hle r l hl
  have ht := lt42 t
  have hu' := lt42 u
  rw [outScale_apply _ _ n (by omega)]
  by_cases h : u.val = t.val
  · have e : u = t := Fin.ext h
    subst e
    rw [if_pos (by omega)]
  · rw [if_neg (by omega)]
    exact hd (by omega) u hu (by omega) r l hl

/-! ## The pipeline's proof data -/

/-- The two results' windows, held to a predicate. -/
def marked : Fin 6 → Bool := fun w => w.val == 4 || w.val == 5

/-- The predicates: the block of codes is the point's, the block of scales holds those up to the point's column. -/
def Rl (c : Dev nD) : (w : Fin cfg0.W) → Fin cfg0.N → ((cfg0.win w).block.Idx → Elt Ideal (cfg0.win w).elt) → Prop := fun w =>
  match w with
  | ⟨0, _⟩ => fun _ _ => True
  | ⟨1, _⟩ => fun _ _ => True
  | ⟨2, _⟩ => fun _ _ => True
  | ⟨3, _⟩ => fun _ _ => True
  | ⟨4, _⟩ => fun t X => (X : Vec Ideal S512x256 .fp8e4m3) = outCodes (XB m c t) (WB m c t)
  | ⟨5, _⟩ => fun t X => RS m c t X

/-- What is carried from point to point: inside a row tile, the dequantised activations in their scratch buffer. -/
def PhiT (c : Dev nD) (n : ℕ) : sProp 𝕄 :=
  iprop(iprop((∃ d, ⌜n % 7 ≠ 0 → ∀ h : n < cfg0.N, d = XB m c ⟨n, h⟩⌝ ∗ owns (c : Thread nD τ) scM0_0 fullShare d)
    ∗ (∃ d, owns (c : Thread nD τ) scM0_1 fullShare d)) ∗ (∃ r, prngReg c r))

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ t := PhiT m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiT m c t.val := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The relational data: the exact data with the two results held to their predicates. -/
abbrev rdat (c : Dev nD) : Pipeline.RDat τ (Elt Ideal) Unit ℕ (UR sig nD τ) ℕ cfg0 c := (dats m 0 c).toRRel marked (Rl m c)

/-- What the body may find in the block of scales inside a row tile: what the point before left. -/
theorem finds_scale (c : Dev nD) (t : Fin cfg0.N) (d : Vec Ideal S512x14 .f32) (h0 : t.val % 7 ≠ 0) (h : (rdat m c).Finds 5 t d) :
    RS m c ⟨t.val - 1, Nat.lt_of_le_of_lt (Nat.sub_le _ _) t.isLt⟩ d := by
  have hne : t.val ≠ 0 := fun e => h0 (by rw [e])
  rcases ((rdat m c).finds_of_pos (w := 5) (t := t) rfl hne d).mp h with hf | hL
  · have := (flush0_5 _).mp hf
    simp only at this
    omega
  · exact (dats m 0 c).toRRel_leaves (w := 5) rfl hL

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, ⌜(rdat m c).Finds 4 t d⌝ ∗ owns (c : Thread nD τ) (ms0_4 t) fullShare d)
    ∗ (∃ d, ⌜(rdat m c).Finds 5 t d⌝ ∗ owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X))

/-- The activations that a point leaves in the scratch buffer are those of the next point of its row tile. -/
theorem carry (c : Dev nD) (t : Fin cfg0.N) : (t.val + 1) % 7 ≠ 0 → ∀ h : t.val + 1 < cfg0.N, XB m c t = XB m c ⟨t.val + 1, h⟩ :=
  fun h7 h => XB_congr m c t ⟨t.val + 1, h⟩ (by simp only; omega)

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [Phi_eq, Phi_eq, show (dats m 0 c).owesAt () t.succ = (dats m 0 c).owesAt () t.castSucc from rfl,
    after0_0, after0_1, after0_2, after0_3]
  rw [show (t.castSucc : Fin (cfg0.N + 1)).val = t.val from rfl, show (t.succ : Fin (cfg0.N + 1)).val = t.val + 1 from rfl]
  unfold PhiT
  have hN : t.val < 42 := lt42 t
  by_cases h0 : t.val % 7 = 0
  · iintro ⟨⟨⟨⟨%ds0, %hs, HS0⟩, HS1⟩, Hg⟩, Ho, ⟨%d0, H0⟩, ⟨%d1, H1⟩, ⟨%d2, H2⟩, ⟨%d3, H3⟩, ⟨%d4, -, H4⟩, ⟨%d5, %hd5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t) d5) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexists _; iexact HS0
    isplitl [HS1]; · iexact HS1
    iintro ⟨H0, H1, H2, H3, H4, H5, HS0, HS1⟩
    isplitl [HS0 HS1 Hg]
    · isplitl [HS0 HS1]
      · isplitl [HS0]
        · iexists _
          isplitr; swap; · iexact HS0
          ipureintro
          exact carry m c t
        iexact HS1
      iexact Hg
    isplitl [Ho]; · iexact Ho
    isplitl [H0]; · iexact H0
    isplitl [H1]; · iexact H1
    isplitl [H2]; · iexact H2
    isplitl [H3]; · iexact H3
    isplitl [H4]
    · iexists _
      isplitr; swap; · iexact H4
      ipureintro
      exact (rfl : outCodes (XB m c t) (WB m c t) = outCodes (XB m c t) (WB m c t))
    iexists _
    isplitr; swap; · iexact H5
    ipureintro
    exact RS_step m c t d5 (fun h => absurd h0 h) _ (coords1 t)
  · iintro ⟨⟨⟨⟨%ds0, %hs, HS0⟩, HS1⟩, Hg⟩, Ho, ⟨%d0, H0⟩, ⟨%d1, H1⟩, ⟨%d2, H2⟩, ⟨%d3, H3⟩, ⟨%d4, -, H4⟩, ⟨%d5, %hd5, H5⟩⟩
    obtain rfl := hs h0 t.isLt
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) d5 (XB m c t)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _
          isplitr; swap; · iexact HS0
          ipureintro
          exact carry m c t
        iexact HS1
      iexact Hg
    isplitl [Ho]; · iexact Ho
    isplitl [H0]; · iexact H0
    isplitl [H1]; · iexact H1
    isplitl [H2]; · iexact H2
    isplitl [H3]; · iexact H3
    isplitl [H4]
    · iexists _
      isplitr; swap; · iexact H4
      ipureintro
      exact (rfl : outCodes (XB m c t) (WB m c t) = outCodes (XB m c t) (WB m c t))
    iexists _
    isplitr; swap; · iexact H5
    ipureintro
    refine RS_step m c t d5 (fun h u hu hlt r l hl => finds_scale m c t d5 h hd5 u ?_ ?_ r l hl) _ (coords1 t)
    · simp only; omega
    · simp only; omega

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : Pipeline.BodyObligationRel (dats m 0 c) (defs₀ (F := Ideal)) Variants.none () Set.univ marked (Rl m c) := fun t => by
  rw [bigSep_W0, bigSep_W0, defs₀_row]
  exact triple_restated (sound_body m c t) rfl .rfl fun _ => .rfl

/-! ## The run -/

theorem Phi_in (c : Dev nD) : (Pipeline.ΦA spec0 c : sProp 𝕄) ⊢ PhiT m c 0 := by
  rw [PhiA0_eq]
  unfold PhiT
  iintro ⟨⟨⟨%d, HS0⟩, HS1⟩, Hg⟩
  isplitl [HS0 HS1]
  · isplitl [HS0]
    · iexists d
      isplitr; swap; · iexact HS0
      ipureintro
      exact fun h => absurd rfl h
    iexact HS1
  iexact Hg

theorem Phi_out (c : Dev nD) (n : ℕ) : PhiT m c n ⊢ (Pipeline.ΦA spec0 c : sProp 𝕄) := by
  rw [PhiA0_eq]
  unfold PhiT
  iintro ⟨⟨⟨%d, -, HS0⟩, HS1⟩, Hg⟩
  isplitl [HS0 HS1]
  · isplitl [HS0]
    · iexists d
      iexact HS0
    iexact HS1
  iexact Hg

set_option backward.isDefEq.respectTransparency.types false in
/-- The run, every semaphore counter at zero at every final state. -/
theorem run_main_quiescent : θ_run defs (onTc (τ := τ) (main (F := Ideal))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m)
    (hin := fun c => Phi_in m c) (hout := fun c => Phi_out m c _)

theorem run_main : θ_run defs (onTc (τ := τ) (main (F := Ideal))) (s₀ m ρ) (Pipeline.RDat.FramePost (cfgs 0) (fun c => rdat m c) (V m)) :=
  (θ_run defs _ _).mono (fun _ h => h.1) (run_main_quiescent m ρ)

/-- The argument arrays end as they began. -/
theorem unchanged_of (r : PUnit × MemSt nD τ sig (Elt Ideal)) (h : Pipeline.RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((A_eq m c 2).trans (V_main_arg2 m c)),
    (Pipeline.RDat.FramePost.arr_in h c 3 rfl).trans ((A_eq m c 3).trans (V_main_arg3 m c))⟩

/-- The frame: the argument arrays unchanged, every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => unchanged_of m r h.1 c, h.2⟩) (run_main_quiescent m ρ)

end Cert.KernelIdeal.Hand

end
-- ==== Proof.Spec.lean ====
/-
  The two results as functions of the four argument matrices, on the extended reals: what both programs are shown to compute.
-/
module

public import proofs.«01_k».proof.Proof.Scale

@[expose] public section

noncomputable section

namespace Cert.Spec

open Cert.Scale
open Idealize.ShloMosaic

variable (X : Fin 3072 → Fin 3584 → EReal) (XS : Fin 3072 → Fin 28 → EReal) (W : Fin 3584 → Fin 3584 → EReal) (WS : Fin 28 → Fin 28 → EReal)

/-- The product of the dequantised activations and weights. -/
def gR (R : Fin 3072) (J : Fin 3584) : EReal :=
  ∑ k : Fin 3584, X R k * XS R ⟨k.val / 128, by omega⟩ * (W k J * WS ⟨k.val / 128, by omega⟩ ⟨J.val / 128, by omega⟩)

/-- `silu(gate) * up`: in every 256 columns of the product the gate's 128 stand before the up's. -/
def hR (R : Fin 3072) (G : Fin 14) (x : Fin 128) : EReal :=
  gR X XS W WS R ⟨256 * G.val + x.val, by omega⟩ * Ideal.logistic (gR X XS W WS R ⟨256 * G.val + x.val, by omega⟩)
    * gR X XS W WS R ⟨256 * G.val + 128 + x.val, by omega⟩

/-- A group's largest magnitude, divided by 448. -/
def vR (R : Fin 3072) (G : Fin 14) : EReal :=
  (Finset.univ.fold max (Ideal.ofBits .f32 0xFF800000#32) fun x : Fin 128 => FloatOps.absf (F := Ideal) (φ := .f32) (hR X XS W WS R G x))
    * Ideal.ofBits .f32 0x3B124925#32

/-- A group's scale. -/
def scaleR (R : Fin 3072) (G : Fin 14) : EReal := rScale (vR X XS W WS R G)

/-- A code. -/
def codeR (R : Fin 3072) (L : Fin 1792) : EReal :=
  min (Ideal.ofBits .f32 0x43E00000#32) (max (Ideal.ofBits .f32 0xC3E00000#32)
    (hR X XS W WS R ⟨L.val / 128, by omega⟩ ⟨L.val % 128, by omega⟩ * rInv (vR X XS W WS R ⟨L.val / 128, by omega⟩)))

end Cert.Spec

end
-- ==== Proof.KernelValue.lean ====
/-
  The kernel's two result arrays on the extended reals: every grid point's blocks are the parts of the reference's mathematics
  that lie under them, and together they cover the arrays.
-/
module

public import proofs.«01_k».proof.Proof.Sound
public import proofs.«01_k».proof.Proof.Spec
public import Idealize.ShloMosaic.Lib.Pipeline.ValueKit.Geometry

@[expose] public section

set_option maxRecDepth 16384

noncomputable section

namespace Cert.KernelIdeal.Hand

open Cert.KernelIdeal.Gen Cert.Scale Cert.Spec
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-! ## One grid point, as a part of the whole -/

/-- The four argument matrices by row and column. -/
def A0 (c : Dev nD) (R : Fin 3072) (k : Fin 3584) : EReal := X0 m c (ix2 R k)
def A1 (c : Dev nD) (R : Fin 3072) (k : Fin 28) : EReal := X1 m c (ix2 R k)
def A2 (c : Dev nD) (k : Fin 3584) (J : Fin 3584) : EReal := X2 m c (ix2 k J)
def A3 (c : Dev nD) (a : Fin 28) (b : Fin 28) : EReal := X3 m c (ix2 a b)

/-- A row of a grid point's tile, as a row of the whole; a column of the weights', of the codes', of the scales' likewise. -/
def gRow (t : Fin cfg0.N) (r : Fin 512) : Fin 3072 := ⟨512 * (t.val / 7) + r.val, by have := lt42 t; omega⟩
def gCol (t : Fin cfg0.N) (j : Fin 512) : Fin 3584 := ⟨512 * (t.val % 7) + j.val, by omega⟩
def gLane (t : Fin cfg0.N) (l : Fin 256) : Fin 1792 := ⟨256 * (t.val % 7) + l.val, by omega⟩
def gGrp (t : Fin cfg0.N) (p : Fin 2) : Fin 14 := ⟨2 * (t.val % 7) + p.val, by omega⟩

/-- The dequantised activations. -/
theorem XB_apply (c : Dev nD) (t : Fin cfg0.N) (r : Fin 512) (k : Fin 3584) :
    XB m c t (ix2 r k) = A0 m c (gRow t r) k * A1 m c (gRow t r) ⟨k.val / 128, by omega⟩ := by
  exact congrArg₂ (fun a b : EReal => a * b) (iblk0 m c t r k) (iblk1 m c t r ⟨k.val / 128, by omega⟩)

/-- The dequantised weights. -/
theorem WB_apply (c : Dev nD) (t : Fin cfg0.N) (k : Fin 3584) (j : Fin 512) :
    WB m c t (ix2 k j) = A2 m c k (gCol t j) * A3 m c ⟨k.val / 128, by omega⟩ ⟨(gCol t j).val / 128, by have := (gCol t j).isLt; omega⟩ := by
  have e : (⟨4 * (grid0.coords t 1).val + j.val / 128, by have := coords1 t; omega⟩ : Fin 28) = ⟨(gCol t j).val / 128, by have := (gCol t j).isLt; omega⟩ :=
    Fin.ext (by have := coords1 t; simp only [gCol]; omega)
  have e3 := iblk3 m c t ⟨k.val / 128, by omega⟩ ⟨4 * (grid0.coords t 1).val + j.val / 128, by have := coords1 t; omega⟩
  rw [e] at e3
  refine (congrArg₂ (fun a b : EReal => a * b) (iblk2 m c t k j) ?_)
  refine Eq.trans ?_ e3
  exact congrArg (fun b => (iblk m c 3 t : Vec Ideal S28x28 .f32) (ix2 (⟨k.val / 128, by omega⟩ : Fin 28) b)) e

/-- The product. -/
theorem gT_eq (c : Dev nD) (t : Fin cfg0.N) (r j : Fin 512) :
    gT (XB m c t) (WB m c t) r j = gR (A0 m c) (A1 m c) (A2 m c) (A3 m c) (gRow t r) (gCol t j) := by
  unfold gT gR
  refine Finset.sum_congr rfl fun k _ => ?_
  rw [XB_apply, WB_apply]

/-- The activation of gate and up. -/
theorem hT_eq (c : Dev nD) (t : Fin cfg0.N) (r : Fin 512) (l : Fin 256) (G : Fin 14) (x : Fin 128)
    (h : 128 * G.val + x.val = 256 * (t.val % 7) + l.val) :
    hT (XB m c t) (WB m c t) r l = hR (A0 m c) (A1 m c) (A2 m c) (A3 m c) (gRow t r) G x := by
  unfold hT hR
  have e0 : gCol t ⟨256 * (l.val / 128) + l.val % 128, by omega⟩ = ⟨256 * G.val + x.val, by omega⟩ := Fin.ext (by simp only [gCol]; omega)
  have e1 : gCol t ⟨256 * (l.val / 128) + 128 + l.val % 128, by omega⟩ = ⟨256 * G.val + 128 + x.val, by omega⟩ :=
    Fin.ext (by simp only [gCol]; omega)
  rw [gT_eq, gT_eq, e0, e1]

/-- A group's scaled maximum. -/
theorem vT_eq (c : Dev nD) (t : Fin cfg0.N) (r : Fin 512) (p : Fin 2) (G : Fin 14) (h : G.val = 2 * (t.val % 7) + p.val) :
    vT (XB m c t) (WB m c t) r p = vR (A0 m c) (A1 m c) (A2 m c) (A3 m c) (gRow t r) G := by
  unfold vT vR
  have e : (fun x : Fin 128 => FloatOps.absf (F := Ideal) (φ := .f32) (hT (XB m c t) (WB m c t) r ⟨128 * p.val + x.val, by omega⟩))
      = fun x : Fin 128 => FloatOps.absf (F := Ideal) (φ := .f32) (hR (A0 m c) (A1 m c) (A2 m c) (A3 m c) (gRow t r) G x) :=
    funext fun x => congrArg (FloatOps.absf (F := Ideal) (φ := .f32)) (hT_eq m c t r _ G x (by simp only; omega))
  rw [e]

/-- A code of a grid point. -/
theorem cT_eq (c : Dev nD) (t : Fin cfg0.N) (r : Fin 512) (l : Fin 256) (L : Fin 1792) (h : L.val = 256 * (t.val % 7) + l.val) :
    cT (XB m c t) (WB m c t) r l = codeR (A0 m c) (A1 m c) (A2 m c) (A3 m c) (gRow t r) L := by
  unfold cT codeR
  rw [hT_eq m c t r l ⟨L.val / 128, by omega⟩ ⟨L.val % 128, by omega⟩ (by simp only; omega),
    vT_eq m c t r ⟨l.val / 128, by omega⟩ ⟨L.val / 128, by omega⟩ (by simp only; omega), (scales_eq _).2]

/-! ## The two result arrays -/

/-- The codes and the scales of the four matrices, as arrays. -/
def codes (c : Dev nD) : Vec Ideal S3072x1792 .fp8e4m3 := fun i => codeR (A0 m c) (A1 m c) (A2 m c) (A3 m c) ⟨(i 0).val, (i 0).isLt⟩ ⟨(i 1).val, (i 1).isLt⟩
def scales (c : Dev nD) : Vec Ideal S3072x14 .f32 := fun i => scaleR (A0 m c) (A1 m c) (A2 m c) (A3 m c) ⟨(i 0).val, (i 0).isLt⟩ ⟨(i 1).val, (i 1).isLt⟩

/-- The array of codes after the run. -/
theorem final_codes (c : Dev nD) (dat : Dat τ (Elt Ideal) Unit ℕ (UR sig nD τ) ℕ cfg0 c)
    (h : ∀ t : Fin cfg0.N, (dat.after 4 t : Vec Ideal S512x256 .fp8e4m3) = outCodes (XB m c t) (WB m c t)) : dat.arrAt 4 cfg0.N = codes m c := by
  refine dat.arrAt_eq_of_covers 4 _ (by decide +kernel) fun t hf y => ?_
  blk_simp
  rw [h]
  idx_vars y
  refine (outCodes_apply _ _ _ _).trans ?_
  rw [cT_eq m c t y0 y1 (gLane t y1) rfl]
  have e : ((View.whole main_v2_0).slice (win0_4.rect t)).emb (ix2 y0 y1) = (ix2 (gRow t y0) (gLane t y1) : S3072x1792.Idx) := by
    blk_ext [idx t, gRow, gLane]
  exact (congrArg (codes m c) e).symm

/-- The array of scales after the run. -/
theorem final_scales (c : Dev nD) (dat : Dat τ (Elt Ideal) Unit ℕ (UR sig nD τ) ℕ cfg0 c)
    (h : ∀ t : Fin cfg0.N, (cfg0.win 5).flush t = true → RS m c t (dat.after 5 t)) : dat.arrAt 5 cfg0.N = scales m c := by
  refine dat.arrAt_eq_of_covers 5 _ (by decide +kernel) fun t hf y => ?_
  have hd := h t hf
  have ht := (flush0_5 t).mp hf
  generalize dat.after 5 t = d at hd
  blk_simp
  idx_vars y
  have e : ((View.whole main_v2_1).slice (win0_5.rect t)).emb (ix2 y0 y1) = (ix2 (gRow t y0) y1 : S3072x14.Idx) := by
    blk_ext [idx t, gRow]
  refine Eq.trans ?_ (congrArg (scales m c) e).symm
  have h42 := lt42 t
  have hN : cfg0.N = 42 := N_0
  have hu := hd ⟨7 * (t.val / 7) + y1.val / 2, by omega⟩ (by simp only; omega) (by simp only; omega) y0 y1 (by simp only; omega)
  rw [(scales_eq _).1, vT_eq m c _ y0 _ y1 (by simp only; omega)] at hu
  refine hu.trans ?_
  have eR : gRow ⟨7 * (t.val / 7) + y1.val / 2, by omega⟩ y0 = gRow t y0 := Fin.ext (by simp only [gRow]; omega)
  rw [eR]
  rfl

/-- What the kernel's run ends with. -/
theorem run_value : θ_run defs (onTc (τ := τ) (main (F := Ideal))) ⟨m, fun _ => 0, ρ⟩ (fun r => ∀ c : Dev nD,
    r.2.mem ((c.tc : Thread nD τ).loc main_v2_0) = codes m c ∧ r.2.mem ((c.tc : Thread nD τ).loc main_v2_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ)
  obtain ⟨after, hL, hA⟩ := Pipeline.RDat.FramePost.exists_exact h c
  have h4 : ∀ t : Fin cfg0.N, (after 4 t : Vec Ideal S512x256 .fp8e4m3) = outCodes (XB m c t) (WB m c t) := fun t =>
    (dats m 0 c).toRRel_leaves (w := 4) rfl (hL 4 t (flush0_4 t))
  have h5 : ∀ t : Fin cfg0.N, (cfg0.win 5).flush t = true → RS m c t (after 5 t) := fun t hf =>
    (dats m 0 c).toRRel_leaves (w := 5) rfl (hL 5 t hf)
  exact ⟨(hA 4).trans (final_codes m c _ h4), (hA 5).trans (final_scales m c _ h5), unchanged_of m r h c⟩

/-- The arrays that the region reads, from the arguments: the first two are reshaped on the way. -/
theorem X0_eq (c : Dev nD) : X0 m c = shapeCast S3072x3584 (m ((c.tc : Thread nD τ).loc main_arg0) : Vec Ideal S3x1024x3584 .fp8e4m3) shapeCasts_S3x1024x3584_S3072x3584 := by
  unfold X0
  entry_read
  rfl

theorem X1_eq (c : Dev nD) : X1 m c = shapeCast S3072x28 (m ((c.tc : Thread nD τ).loc main_arg1) : Vec Ideal S3x1024x28 .f32) shapeCasts_S3x1024x28_S3072x28 := by
  unfold X1
  entry_read
  rfl

end Cert.KernelIdeal.Hand

end
-- ==== Proof.RefStages.lean ====
/-
  The stages of the reference up to `silu(gate) * up`, each at an index.
-/
module

public import proofs.«01_k».proof.Defs
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Spec

@[expose] public section

set_option maxRecDepth 16384

noncomputable section

namespace Cert.ReferenceIdeal.Hand

open Cert.ReferenceIdeal Cert.ReferenceIdeal.Gen Cert.Scale Cert.Spec
open Idealize.ShloMosaic Idealize.ShloMosaic.Tactic

/-- A matrix as a function of its row and column. -/
abbrev mat {a b : ℕ} (x : (⟨2, ![a, b]⟩ : Shape).Idx → EReal) : Fin a → Fin b → EReal := fun i j => x (ix2 i j)

variable (x0 : Vec Ideal S3072x3584 .fp8e4m3) (x1 : Vec Ideal S3072x28 .f32) (x2 : Vec Ideal S3584x3584 .fp8e4m3) (x3 : Vec Ideal S28x28 .f32)

/-! ## Each stage at an index, from the stage before -/

/-- The dequantised activations. -/
def xbR : FVec Ideal S3072x3584 .bf16 :=
  shapeCast S3072x3584 (mulf (shapeCast S3072x28x128 (extf .bf16 (shapeCast S3072x3584 x0 shapeCasts_S3072x3584_S3072x3584) bitsLt_fp8e4m3_bf16) shapeCasts_S3072x3584_S3072x28x128)
    (broadcastTo S3072x28x128 (shapeCast S3072x28x1 (truncf .bf16 (shapeCast S3072x28 x1 shapeCasts_S3072x28_S3072x28) bitsLt_bf16_f32) shapeCasts_S3072x28_S3072x28x1) broadcasts_S3072x28x1_S3072x28x128))
    shapeCasts_S3072x28x128_S3072x3584

/-- The dequantised weights. -/
def wbR : FVec Ideal S3584x3584 .bf16 :=
  shapeCast S3584x3584 (mulf (shapeCast S28x128x28x128 (extf .bf16 x2 bitsLt_fp8e4m3_bf16) shapeCasts_S3584x3584_S28x128x28x128)
    (broadcastTo S28x128x28x128 (shapeCast S28x1x28x1 (truncf .bf16 x3 bitsLt_bf16_f32) shapeCasts_S28x28_S28x1x28x1) broadcasts_S28x1x28x1_S28x128x28x128))
    shapeCasts_S28x128x28x128_S3584x3584

/-- Their product. -/
def yR (xb : FVec Ideal S3072x3584 .bf16) (wb : FVec Ideal S3584x3584 .bf16) : FVec Ideal S3072x3584 .f32 :=
  matmul dot_S3072x3584_S3584x3584_S3072x3584_1_0_0_1_n_n none xb wb (constant S3072x3584 .f32 0x00000000#32)

/-- The activation of gate and up, from the product. -/
def hOf (y : FVec Ideal S3072x3584 .f32) : FVec Ideal S3072x14x128 .f32 :=
  have g : FVec Ideal S3072x14x128 .f32 := shapeCast S3072x14x128 (extractStridedSlice S3072x14x1x128 ![0, 0, 0, 0] (shapeCast S3072x14x2x128 y shapeCasts_S3072x3584_S3072x14x2x128) slices_S3072x14x2x128_o0_0_0_0_S3072x14x1x128) shapeCasts_S3072x14x1x128_S3072x14x128
  mulf (mulf g (logistic g))
    (shapeCast S3072x14x128 (extractStridedSlice S3072x14x1x128 ![0, 0, 1, 0] (shapeCast S3072x14x2x128 y shapeCasts_S3072x3584_S3072x14x2x128) slices_S3072x14x2x128_o0_0_1_0_S3072x14x1x128) shapeCasts_S3072x14x1x128_S3072x14x128)

theorem pay3_eq : k0_pay3 x0 x1 x2 x3 = hOf (yR (xbR x0 x1) (wbR x2 x3)) := rfl

theorem xbR_apply (R : Fin 3072) (k : Fin 3584) : xbR x0 x1 (ix2 R k) = x0 (ix2 R k) * x1 (ix2 R ⟨k.val / 128, by omega⟩) := by
  pointwise [xbR]

theorem wbR_apply (k J : Fin 3584) : wbR x2 x3 (ix2 k J) = x2 (ix2 k J) * x3 (ix2 ⟨k.val / 128, by omega⟩ ⟨J.val / 128, by omega⟩) := by
  pointwise [wbR]

theorem yR_apply (xb : FVec Ideal S3072x3584 .bf16) (wb : FVec Ideal S3584x3584 .bf16) (R : Fin 3072) (J : Fin 3584) :
    yR xb wb (ix2 R J) = ∑ k : Fin 3584, xb (ix2 R k) * wb (ix2 k J) := by
  pointwise [yR]

theorem hOf_apply (y : FVec Ideal S3072x3584 .f32) (R : Fin 3072) (G : Fin 14) (x : Fin 128) :
    hOf y (ix3 R G x) = y (ix2 R ⟨256 * G.val + x.val, by omega⟩) * Ideal.logistic (y (ix2 R ⟨256 * G.val + x.val, by omega⟩))
      * y (ix2 R ⟨256 * G.val + 128 + x.val, by omega⟩) := by
  pointwise [hOf]
  simp only [Nat.mul_comm G.val 256]

end Cert.ReferenceIdeal.Hand

end
-- ==== Proof.RefQuant.lean ====
/-
  The quantiser of the reference at an index: a group's scaled maximum, its exponent, its scale and its codes.
-/
module

public import proofs.«01_k».proof.Defs
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Spec
public import Idealize.ShloMosaic.PureOps.Ideal.Laws

@[expose] public section

set_option maxRecDepth 16384

noncomputable section

namespace Cert.ReferenceIdeal.Hand

open Cert.ReferenceIdeal Cert.ReferenceIdeal.Gen Cert.Scale Cert.Spec
open Idealize.ShloMosaic Idealize.ShloMosaic.Tactic

/-- A group's scaled maximum, from the activations. -/
def vOf (h : FVec Ideal S3072x14x128 .f32) : FVec Ideal S3072x14 .f32 :=
  mulf (multiReduction .maximumf [2] S3072x14 (absf h) 0xFF800000#32 reduces_S3072x14x128_S3072x14 (.inl rfl) rfl) (broadcast S3072x14 (Scalar.ofBits .f32 0x3B124925#32))

/-- The index that a row's maximum reads. -/
theorem lift_eq (h : S3072x14x128.Reduces [2] S3072x14) (R : Fin 3072) (G : Fin 14) (x : Fin 128) : h.lift (ix2 R G) x = ix3 R G x := by
  funext c
  apply Fin.ext
  match c with
  | ⟨0, _⟩ => rfl
  | ⟨1, _⟩ => rfl
  | ⟨2, _⟩ => rfl

/-- A maximum over one axis, by the values it runs over. -/
theorem maxOf_apply {s t : Shape} {a : Fin s.rank} {φ : FTy} (src : FVec Ideal s φ) (acc : BitVec φ.bits) (h : s.Reduces [a] t)
    (hφ : FKind.Formats φ) (hacc : acc = FKind.maximumf.neutral φ hφ) (j : t.Idx) (f : Fin (s.size a) → EReal) (hf : ∀ k, src (h.lift j k) = f k) :
    multiReduction .maximumf [a] t src acc h hφ hacc j = Finset.univ.fold max (Ideal.ofBits φ acc) f :=
  (Ideal.multiReduction_maximumf_single src acc h hφ hacc j).trans (congrArg (Finset.univ.fold max (Ideal.ofBits φ acc)) (funext hf))

theorem absmax_apply (h : FVec Ideal S3072x14x128 .f32) (R : Fin 3072) (G : Fin 14) :
    multiReduction .maximumf [2] S3072x14 (absf h) 0xFF800000#32 reduces_S3072x14x128_S3072x14 (.inl rfl) rfl (ix2 R G)
      = Finset.univ.fold max (Ideal.ofBits .f32 0xFF800000#32) fun x : Fin 128 => FloatOps.absf (F := Ideal) (φ := .f32) (h (ix3 R G x)) :=
  maxOf_apply (s := S3072x14x128) (t := S3072x14) (a := (2 : Fin 3)) (absf h) 0xFF800000#32 reduces_S3072x14x128_S3072x14 (.inl rfl) rfl (ix2 R G) _
    fun k => congrArg (fun i => FloatOps.absf (F := Ideal) (φ := .f32) (h i)) (lift_eq reduces_S3072x14x128_S3072x14 R G k)

theorem vOf_apply (h : FVec Ideal S3072x14x128 .f32) (R : Fin 3072) (G : Fin 14) :
    vOf h (ix2 R G) = (Finset.univ.fold max (Ideal.ofBits .f32 0xFF800000#32) fun x : Fin 128 => FloatOps.absf (F := Ideal) (φ := .f32) (h (ix3 R G x)))
      * Ideal.ofBits .f32 0x3B124925#32 := by
  unfold vOf
  rw [mulf_apply, absmax_apply]
  rfl

/-- A group's exponent, from its scaled maximum. -/
def eOf (v : FVec Ideal S3072x14 .f32) : FVec Ideal S3072x14 .f32 :=
  select (cmpf .olt v (broadcast S3072x14 (Scalar.ofBits .f32 0x00800000#32))) (broadcast S3072x14 (Scalar.ofBits .f32 0x00000000#32))
    (addf (floor (divf (log v) (log (broadcast S3072x14 (Scalar.ofBits .f32 0x40000000#32))))) (broadcast S3072x14 (Scalar.ofBits .f32 0x3F800000#32)))

theorem eOf_apply (v : FVec Ideal S3072x14 .f32) (R : Fin 3072) (G : Fin 14) : eOf v (ix2 R G) = rExp (v (ix2 R G)) := by
  pointwise [eOf]
  unfold rExp
  rw [c_one, EReal.coe_one]

theorem scale_apply (v e : FVec Ideal S3072x14 .f32) (R : Fin 3072) (G : Fin 14) (he : e (ix2 R G) = rExp (v (ix2 R G))) :
    k0_pay1 v e (Scalar.ofBits .f32 0x7F000000#32) (ix2 R G) = rScale (v (ix2 R G)) := by
  pointwise [k0_pay1, he]
  rfl

theorem code_apply (h : FVec Ideal S3072x14x128 .f32) (v e : FVec Ideal S3072x14 .f32) (R : Fin 3072) (L : Fin 1792)
    (he : e (ix2 R ⟨L.val / 128, by omega⟩) = rExp (v (ix2 R ⟨L.val / 128, by omega⟩))) :
    k0_pay2 h v e (ix2 R L) = min (Ideal.ofBits .f32 0x43E00000#32) (max (Ideal.ofBits .f32 0xC3E00000#32)
      (h (ix3 R ⟨L.val / 128, by omega⟩ ⟨L.val % 128, by omega⟩) * rInv (v (ix2 R ⟨L.val / 128, by omega⟩)))) := by
  pointwise [k0_pay2, he]
  rfl

end Cert.ReferenceIdeal.Hand

end
-- ==== Proof.RefValue.lean ====
/-
  The reference's two results at an index.
-/
module

public import proofs.«01_k».proof.Defs
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RefStages
public import proofs.«01_k».proof.Proof.RefQuant

@[expose] public section

set_option maxRecDepth 16384

noncomputable section

namespace Cert.ReferenceIdeal.Hand

open Cert.ReferenceIdeal Cert.ReferenceIdeal.Gen Cert.Scale Cert.Spec
open Idealize.ShloMosaic Idealize.ShloMosaic.Tactic

variable (x0 : Vec Ideal S3072x3584 .fp8e4m3) (x1 : Vec Ideal S3072x28 .f32) (x2 : Vec Ideal S3584x3584 .fp8e4m3) (x3 : Vec Ideal S28x28 .f32)

/-! ## The payloads at an index -/

theorem pay4_eq : k0_pay4 x0 x1 x2 x3 = vOf (k0_pay3 x0 x1 x2 x3) := rfl

theorem pay5_eq : k0_pay5 x0 x1 x2 x3 = eOf (k0_pay4 x0 x1 x2 x3) := rfl

theorem pay3_apply (R : Fin 3072) (G : Fin 14) (x : Fin 128) :
    k0_pay3 x0 x1 x2 x3 (ix3 R G x) = hR (mat x0) (mat x1) (mat x2) (mat x3) R G x := by
  rw [pay3_eq, hOf_apply]
  simp only [yR_apply, xbR_apply, wbR_apply]
  rfl

theorem pay4_apply (R : Fin 3072) (G : Fin 14) :
    k0_pay4 x0 x1 x2 x3 (ix2 R G) = vR (mat x0) (mat x1) (mat x2) (mat x3) R G := by
  rw [pay4_eq, vOf_apply]
  simp only [pay3_apply]
  rfl

theorem pay5_apply (R : Fin 3072) (G : Fin 14) :
    k0_pay5 x0 x1 x2 x3 (ix2 R G) = rExp (k0_pay4 x0 x1 x2 x3 (ix2 R G)) := by
  rw [pay5_eq, eOf_apply]

/-- The reference's scales. -/
theorem pay1_apply (R : Fin 3072) (G : Fin 14) :
    k0_pay1 (k0_pay4 x0 x1 x2 x3) (k0_pay5 x0 x1 x2 x3) (Scalar.ofBits .f32 0x7F000000#32) (ix2 R G) = scaleR (mat x0) (mat x1) (mat x2) (mat x3) R G := by
  rw [scale_apply _ _ R G (pay5_apply x0 x1 x2 x3 R G), pay4_apply]
  rfl

/-- The reference's codes. -/
theorem pay2_apply (R : Fin 3072) (L : Fin 1792) :
    k0_pay2 (k0_pay3 x0 x1 x2 x3) (k0_pay4 x0 x1 x2 x3) (k0_pay5 x0 x1 x2 x3) (ix2 R L) = codeR (mat x0) (mat x1) (mat x2) (mat x3) R L := by
  rw [code_apply _ _ _ R L (pay5_apply x0 x1 x2 x3 R _), pay4_apply, pay3_apply]
  rfl

end Cert.ReferenceIdeal.Hand

end
-- ==== Proof.RefFinal.lean ====
/-
  The reference's two result arrays: its one grid point's blocks are whole arrays, so the arrays are the two payloads.
-/
module

public import proofs.«01_k».proof.Proof.RefValue
public import Idealize.ShloMosaic.Lib.Claim
public import Idealize.ShloMosaic.Lib.Pipeline.ValueKit

@[expose] public section

set_option maxRecDepth 16384

noncomputable section

namespace Cert.ReferenceIdeal.Hand

open Cert.ReferenceIdeal Cert.ReferenceIdeal.Gen Cert.Scale Cert.Spec
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The four argument matrices, the tokens of all batches in one axis. -/
def Y0 (c : Dev nD) : Vec Ideal S3072x3584 .fp8e4m3 := V m c main_v0
def Y1 (c : Dev nD) : Vec Ideal S3072x28 .f32 := V m c main_v1
def Y2 (c : Dev nD) : Vec Ideal S3584x3584 .fp8e4m3 := V m c main_arg2
def Y3 (c : Dev nD) : Vec Ideal S28x28 .f32 := V m c main_arg3

/-- Every window's one block starts at the array's corner. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := by decide +kernel

theorem iblk0 (c : Dev nD) (t : Fin cfg0.N) : (iblk m c 0 t : Vec Ideal S3072x3584 .fp8e4m3) = Y0 m c := by
  funext y
  idx_vars y
  unfold Y0
  blk_ext [iblk, idx t]

theorem iblk1 (c : Dev nD) (t : Fin cfg0.N) : (iblk m c 1 t : Vec Ideal S3072x28 .f32) = Y1 m c := by
  funext y
  idx_vars y
  unfold Y1
  blk_ext [iblk, idx t]

theorem iblk2 (c : Dev nD) (t : Fin cfg0.N) : (iblk m c 2 t : Vec Ideal S3584x3584 .fp8e4m3) = Y2 m c := by
  funext y
  idx_vars y
  unfold Y2
  blk_ext [iblk, idx t]

theorem iblk3 (c : Dev nD) (t : Fin cfg0.N) : (iblk m c 3 t : Vec Ideal S28x28 .f32) = Y3 m c := by
  funext y
  idx_vars y
  unfold Y3
  blk_ext [iblk, idx t]

variable (x0 : Vec Ideal S3072x3584 .fp8e4m3) (x1 : Vec Ideal S3072x28 .f32) (x2 : Vec Ideal S3584x3584 .fp8e4m3) (x3 : Vec Ideal S28x28 .f32)

/-- The stored codes and scales, the loads and the store taken over the whole blocks. -/
theorem out4_eq : out0_4 x0 x1 x2 x3 = k0_pay2 (k0_pay3 x0 x1 x2 x3) (k0_pay4 x0 x1 x2 x3) (k0_pay5 x0 x1 x2 x3) := by
  unfold_out out0_4
  rw [View.canon_cons_unit_lit' _ _ _ (by decide), View.ld_unit_lit' _ x0 (by decide), View.ld_unit_lit' _ x1 (by decide),
    View.ld_unit_lit' _ x2 (by decide), View.ld_unit_lit' _ x3 (by decide)]

theorem out5_eq : out0_5 x0 x1 x2 x3 = k0_pay1 (k0_pay4 x0 x1 x2 x3) (k0_pay5 x0 x1 x2 x3) (Scalar.ofBits .f32 0x7F000000#32) := by
  unfold_out out0_5
  rw [View.canon_cons_unit_lit' _ _ _ (by decide), View.ld_unit_lit' _ x0 (by decide), View.ld_unit_lit' _ x1 (by decide),
    View.ld_unit_lit' _ x2 (by decide), View.ld_unit_lit' _ x3 (by decide)]

/-- The codes and the scales of the four matrices, as arrays. -/
def codes (c : Dev nD) : Vec Ideal S3072x1792 .fp8e4m3 := fun i =>
  codeR (mat (Y0 m c)) (mat (Y1 m c)) (mat (Y2 m c)) (mat (Y3 m c)) ⟨(i 0).val, (i 0).isLt⟩ ⟨(i 1).val, (i 1).isLt⟩
def scales (c : Dev nD) : Vec Ideal S3072x14 .f32 := fun i =>
  scaleR (mat (Y0 m c)) (mat (Y1 m c)) (mat (Y2 m c)) (mat (Y3 m c)) ⟨(i 0).val, (i 0).isLt⟩ ⟨(i 1).val, (i 1).isLt⟩

/-- The array of codes after the run. -/
theorem final_codes (c : Dev nD) : (dats m 0 c).arrAt 4 cfg0.N = codes m c := by
  refine (dats m 0 c).arrAt_eq_of_covers 4 _ (by decide +kernel) fun t hf y => ?_
  have e0 := after0_4 m c t
  rw [iblk0, iblk1, iblk2, iblk3, out4_eq] at e0
  blk_simp
  rw [e0]
  idx_vars y
  have e : ((View.whole main_v2_0).slice (win0_4.rect t)).emb (ix2 y0 y1) = (ix2 y0 y1 : S3072x1792.Idx) := by
    blk_ext [idx t]
  exact (pay2_apply _ _ _ _ y0 y1).trans (congrArg (codes m c) e).symm

/-- The array of scales after the run. -/
theorem final_scales (c : Dev nD) : (dats m 0 c).arrAt 5 cfg0.N = scales m c := by
  refine (dats m 0 c).arrAt_eq_of_covers 5 _ (by decide +kernel) fun t hf y => ?_
  have e0 := after0_5 m c t
  rw [iblk0, iblk1, iblk2, iblk3, out5_eq] at e0
  blk_simp
  rw [e0]
  idx_vars y
  have e : ((View.whole main_v2_1).slice (win0_5.rect t)).emb (ix2 y0 y1) = (ix2 y0 y1 : S3072x14.Idx) := by
    blk_ext [idx t]
  exact (pay1_apply _ _ _ _ y0 y1).trans (congrArg (scales m c) e).symm

/-- What the reference's run ends with. -/
theorem run_value : θ_run defs (onTc (τ := τ) (main (F := Ideal))) ⟨m, fun _ => 0, ρ⟩ (fun r => ∀ c : Dev nD,
    r.2.mem ((c.tc : Thread nD τ).loc main_v2_0) = codes m c ∧ r.2.mem ((c.tc : Thread nD τ).loc main_v2_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.out_eq c 4).trans (final_codes m c), (h.1.out_eq c 5).trans (final_scales m c), h.2 c⟩)
    (θ_run_and (run_main m ρ) (unchanged m ρ))

/-- The arrays that the region reads, from the arguments: the first two are reshaped on the way. -/
theorem Y0_eq (c : Dev nD) : Y0 m c = shapeCast S3072x3584 (m ((c.tc : Thread nD τ).loc main_arg0) : Vec Ideal S3x1024x3584 .fp8e4m3) shapeCasts_S3x1024x3584_S3072x3584 := by
  unfold Y0
  entry_read
  rfl

theorem Y1_eq (c : Dev nD) : Y1 m c = shapeCast S3072x28 (m ((c.tc : Thread nD τ).loc main_arg1) : Vec Ideal S3x1024x28 .f32) shapeCasts_S3x1024x28_S3072x28 := by
  unfold Y1
  entry_read
  rfl

end Cert.ReferenceIdeal.Hand

end
-- ==== Proof.Agree.lean ====
/-
  The two programs' result arrays agree when their arguments do, and with that their runs.
-/
module

public import proofs.«01_k».proof.Proof.KernelValue
public import proofs.«01_k».proof.Proof.RefFinal

@[expose] public section

noncomputable section

namespace Cert.Proof

open Idealize.ShloMosaic Idealize.ShloMosaic.Tactic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def Same : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- The four matrices of one program are those of the other. -/
theorem mat0_eq (h : Same m m') (c : Dev Cert.KernelIdeal.nD) :
    Cert.ReferenceIdeal.Hand.mat (Cert.ReferenceIdeal.Hand.Y0 m' c) = Cert.KernelIdeal.Hand.A0 m c := by
  have e : Cert.ReferenceIdeal.Hand.Y0 m' c = Cert.KernelIdeal.Hand.X0 m c := by
    rw [Cert.ReferenceIdeal.Hand.Y0_eq, Cert.KernelIdeal.Hand.X0_eq, (h c).1]
  rw [e]
  rfl

theorem mat1_eq (h : Same m m') (c : Dev Cert.KernelIdeal.nD) :
    Cert.ReferenceIdeal.Hand.mat (Cert.ReferenceIdeal.Hand.Y1 m' c) = Cert.KernelIdeal.Hand.A1 m c := by
  have e : Cert.ReferenceIdeal.Hand.Y1 m' c = Cert.KernelIdeal.Hand.X1 m c := by
    rw [Cert.ReferenceIdeal.Hand.Y1_eq, Cert.KernelIdeal.Hand.X1_eq, (h c).2.1]
  rw [e]
  rfl

theorem mat2_eq (h : Same m m') (c : Dev Cert.KernelIdeal.nD) :
    Cert.ReferenceIdeal.Hand.mat (Cert.ReferenceIdeal.Hand.Y2 m' c) = Cert.KernelIdeal.Hand.A2 m c := by
  have e : Cert.ReferenceIdeal.Hand.Y2 m' c = Cert.KernelIdeal.Hand.X2 m c :=
    (Cert.ReferenceIdeal.Gen.V_main_arg2 m' c).trans ((h c).2.2.1.trans (Cert.KernelIdeal.Gen.V_main_arg2 m c).symm)
  rw [e]
  rfl

theorem mat3_eq (h : Same m m') (c : Dev Cert.KernelIdeal.nD) :
    Cert.ReferenceIdeal.Hand.mat (Cert.ReferenceIdeal.Hand.Y3 m' c) = Cert.KernelIdeal.Hand.A3 m c := by
  have e : Cert.ReferenceIdeal.Hand.Y3 m' c = Cert.KernelIdeal.Hand.X3 m c :=
    (Cert.ReferenceIdeal.Gen.V_main_arg3 m' c).trans ((h c).2.2.2.trans (Cert.KernelIdeal.Gen.V_main_arg3 m c).symm)
  rw [e]
  rfl

/-- So both write the same codes, -/
theorem codes_eq (h : Same m m') (c : Dev Cert.KernelIdeal.nD) : Cert.ReferenceIdeal.Hand.codes m' c = Cert.KernelIdeal.Hand.codes m c := by
  unfold Cert.ReferenceIdeal.Hand.codes Cert.KernelIdeal.Hand.codes
  rw [mat0_eq m m' h, mat1_eq m m' h, mat2_eq m m' h, mat3_eq m m' h]

/-- and the same scales. -/
theorem scales_eq (h : Same m m') (c : Dev Cert.KernelIdeal.nD) : Cert.ReferenceIdeal.Hand.scales m' c = Cert.KernelIdeal.Hand.scales m c := by
  unfold Cert.ReferenceIdeal.Hand.scales Cert.KernelIdeal.Hand.scales
  rw [mat0_eq m m' h, mat1_eq m m' h, mat2_eq m m' h, mat3_eq m m' h]

end Cert.Proof

end
-- ==== Proof.lean ====
/-
  The certificate: the kernel runs and leaves its arguments as they were, on the machine's floats and on the extended reals; so
  does the reference; and on the extended reals the two end with the same codes and the same scales.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameBits
public import proofs.«01_k».proof.Proof.Agree
public import Idealize.ShloMosaic.Adequacy
public import Idealize.ShloMosaic.Init

@[expose] public section

noncomputable section

namespace Cert.Proof

open Idealize.ShloMosaic Idealize.SL.Sem Cert.Kernel

/-- On the extended reals the kernel and the reference end with equal results. -/
theorem algebraic : Cert.algebraic_KernelIdeal_ReferenceIdeal (hKernelIdeal := Cert.KernelIdeal.Gen.facts) (hReferenceIdeal := Cert.ReferenceIdeal.Gen.facts) :=
  fun m g m' g' _ h => ⟨Cert.KernelIdeal.Hand.codes m, Cert.KernelIdeal.Hand.scales m, Cert.KernelIdeal.Hand.run_value m g,
    (θ_run _ _ _).mono (fun r hr c => ⟨(hr c).1.trans (codes_eq m m' h c), (hr c).2.1.trans (scales_eq m m' h c), (hr c).2.2⟩)
      (Cert.ReferenceIdeal.Hand.run_value m' g')⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  trivial, algebraic⟩

end Cert.Proof

end
